-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoded [hPre_encoded : Cert.Pre_encoded.Facts] (m : (ℓ : Loc Cert.KernelIdeal.nD Cert.KernelIdeal.τ Cert.KernelIdeal.sig) → Buf (Elt Ideal) ℓ) : Prop :=
  ∀ c : Dev Cert.KernelIdeal.nD,
    (Cert.Pre_encoded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_encoded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoded [hPre_encoded : Cert.Pre_encoded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_encoded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_encoded [hKernelIdeal : Cert.KernelIdeal.Facts] [hPre_encoded : Cert.Pre_encoded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_encoded [hReferenceIdeal : Cert.ReferenceIdeal.Facts] [hPre_encoded : Cert.Pre_encoded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_encoded [hKernelIdeal : Cert.KernelIdeal.Facts] [hReferenceIdeal : Cert.ReferenceIdeal.Facts] [hPre_encoded : Cert.Pre_encoded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_encoded : Cert.Pre_encoded.Facts),
    quiescent_Kernel (hKernel := hKernel)
    ∧ quiescent_KernelIdeal (hKernelIdeal := hKernelIdeal)
    ∧ quiescent_KernelIdeal_pre_encoded (hKernelIdeal := hKernelIdeal) (hPre_encoded := hPre_encoded)
    ∧ quiescent_ReferenceIdeal (hReferenceIdeal := hReferenceIdeal)
    ∧ quiescent_ReferenceIdeal_pre_encoded (hReferenceIdeal := hReferenceIdeal) (hPre_encoded := hPre_encoded)
    ∧ preserves_Kernel_KernelIdeal
    ∧ algebraic_KernelIdeal_ReferenceIdeal_pre_encoded (hKernelIdeal := hKernelIdeal) (hReferenceIdeal := hReferenceIdeal) (hPre_encoded := hPre_encoded)
-- ==== Pre_encoded.lean ====
abbrev S1x6144x2048 : Shape := ⟨3, ![1, 6144, 2048]⟩
abbrev S2048x2304 : Shape := ⟨2, ![2048, 2304]⟩
abbrev S64x2304 : Shape := ⟨2, ![64, 2304]⟩
abbrev S1x6144x2304 : Shape := ⟨3, ![1, 6144, 2304]⟩
abbrev S_ : Shape := ⟨0, ![]⟩

class Facts : Prop where
  bcast_S_S1x6144x2048 : S_.BroadcastsInDim S1x6144x2048 (![] : Fin 0 → Fin S1x6144x2048.rank)
  bcast_S_S64x2304 : S_.BroadcastsInDim S64x2304 (![] : Fin 0 → Fin S64x2304.rank)

variable [Facts]

def fn {F : FTy → Type} [FloatOps F] (main_arg0 : FVec F S1x6144x2048 .bf16) (main_arg1 : FVec F S2048x2304 .fp8e4m3) (main_arg2 : IVec S64x2304 8) (main_arg3 : FVec F S1x6144x2304 .bf16) : IVec S1x6144x2048 1 × IVec S64x2304 1 :=
  let main_v0 : FVec F S1x6144x2048 .bf16 := Host.absf main_arg0
  let main_cst : FVec F S_ .bf16 := constant S_ .bf16 0x7F7F#16
  let main_v1 : FVec F S1x6144x2048 .bf16 := broadcastInDim S1x6144x2048 ![] bcast_S_S1x6144x2048 main_cst
  let main_v2 : IVec S1x6144x2048 1 := cmpf .ole main_v0 main_v1
  let main_cst_0 : FVec F S_ .bf16 := constant S_ .bf16 0x7F80#16
  let main_v3 : FVec F S1x6144x2048 .bf16 := broadcastInDim S1x6144x2048 ![] bcast_S_S1x6144x2048 main_cst_0
  let main_v4 : IVec S1x6144x2048 1 := cmpf .oeq main_v0 main_v3
  let main_v5 : IVec S1x6144x2048 1 := ori main_v2 main_v4
  let main_c : IVec S_ 8 := constantI S_ 8 1#8
  let main_v6 : IVec S64x2304 8 := broadcastInDim S64x2304 ![] bcast_S_S64x2304 main_c
  let main_v7 : IVec S64x2304 1 := cmpi .uge main_arg2 main_v6
  let main_c_1 : IVec S_ 8 := constantI S_ 8 254#8
  let main_v8 : IVec S64x2304 8 := broadcastInDim S64x2304 ![] bcast_S_S64x2304 main_c_1
  let main_v9 : IVec S64x2304 1 := cmpi .ule main_arg2 main_v8
  let main_v10 : IVec S64x2304 1 := andi main_v7 main_v9
  (main_v5, main_v10)
-- ==== Kernel.lean ====
abbrev S1x6144x2048 : Shape := ⟨3, ![1, 6144, 2048]⟩
abbrev S2048x2304 : Shape := ⟨2, ![2048, 2304]⟩
abbrev S64x2304 : Shape := ⟨2, ![64, 2304]⟩
abbrev S1x6144x2304 : Shape := ⟨3, ![1, 6144, 2304]⟩
abbrev S6144x2048 : Shape := ⟨2, ![6144, 2048]⟩
abbrev S6144x2304 : Shape := ⟨2, ![6144, 2304]⟩
abbrev S6144x64 : Shape := ⟨2, ![6144, 64]⟩
abbrev S512x2048 : Shape := ⟨2, ![512, 2048]⟩
abbrev S512x2304 : Shape := ⟨2, ![512, 2304]⟩
abbrev S512x64 : Shape := ⟨2, ![512, 64]⟩
abbrev S32x2304 : Shape := ⟨2, ![32, 2304]⟩
abbrev S1x2304 : Shape := ⟨2, ![1, 2304]⟩
abbrev S512x128 : Shape := ⟨2, ![512, 128]⟩
abbrev S128x64 : Shape := ⟨2, ![128, 64]⟩

abbrev nBuf : Space → Nat
  | .hbm => 9
  | .vmem => 14
  | .smem => 0
  | _ => 0

abbrev bufTy : (tb : Table) → Fin (tcTables nBuf tb) → BufTy
  | .hbm, ⟨0, _⟩ => ⟨S1x6144x2048, .bf16⟩
  | .hbm, ⟨1, _⟩ => ⟨S2048x2304, .fp8e4m3⟩
  | .hbm, ⟨2, _⟩ => ⟨S64x2304, .i8⟩
  | .hbm, ⟨3, _⟩ => ⟨S1x6144x2304, .bf16⟩
  | .hbm, ⟨4, _⟩ => ⟨S6144x2048, .bf16⟩
  | .hbm, ⟨5, _⟩ => ⟨S6144x2304, .bf16⟩
  | .hbm, ⟨6, _⟩ => ⟨S6144x2304, .bf16⟩
  | .hbm, ⟨7, _⟩ => ⟨S6144x2048, .fp8e4m3⟩
  | .hbm, ⟨8, _⟩ => ⟨S6144x64, .i8⟩
  | .local _ .vmem, ⟨0, _⟩ => ⟨S512x2048, .bf16⟩
  | .local _ .vmem, ⟨1, _⟩ => ⟨S512x2048, .bf16⟩
  | .local _ .vmem, ⟨2, _⟩ => ⟨S2048x2304, .fp8e4m3⟩
  | .local _ .vmem, ⟨3, _⟩ => ⟨S64x2304, .i8⟩
  | .local _ .vmem, ⟨4, _⟩ => ⟨S512x2304, .bf16⟩
  | .local _ .vmem, ⟨5, _⟩ => ⟨S512x2304, .bf16⟩
  | .local _ .vmem, ⟨6, _⟩ => ⟨S512x2304, .bf16⟩
  | .local _ .vmem, ⟨7, _⟩ => ⟨S512x2304, .bf16⟩
  | .local _ .vmem, ⟨8, _⟩ => ⟨S512x2048, .fp8e4m3⟩
  | .local _ .vmem, ⟨9, _⟩ => ⟨S512x2048, .fp8e4m3⟩
  | .local _ .vmem, ⟨10, _⟩ => ⟨S512x64, .i8⟩
  | .local _ .vmem, ⟨11, _⟩ => ⟨S512x64, .i8⟩
  | .local _ .vmem, ⟨12, _⟩ => ⟨S2048x2304, .bf16⟩
  | .local _ .vmem, ⟨13, _⟩ => ⟨S512x2048, .bf16⟩
  | _, _ => ⟨S1x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2304 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x6144x2048 : Shape := ⟨3, ![1, 6144, 2048]⟩
abbrev S2048x2304 : Shape := ⟨2, ![2048, 2304]⟩
abbrev S64x2304 : Shape := ⟨2, ![64, 2304]⟩
abbrev S1x6144x2304 : Shape := ⟨3, ![1, 6144, 2304]⟩
abbrev S6144x2048 : Shape := ⟨2, ![6144, 2048]⟩
abbrev S6144x2304 : Shape := ⟨2, ![6144, 2304]⟩
abbrev S6144x64 : Shape := ⟨2, ![6144, 64]⟩
abbrev S6144x64x32 : Shape := ⟨3, ![6144, 64, 32]⟩
abbrev S6144x64x1 : Shape := ⟨3, ![6144, 64, 1]⟩
abbrev S64x32x2304 : Shape := ⟨3, ![64, 32, 2304]⟩
abbrev S64x6144x2304 : Shape := ⟨3, ![64, 6144, 2304]⟩
abbrev S64x6144 : Shape := ⟨2, ![64, 6144]⟩
abbrev S64x6144x1 : Shape := ⟨3, ![64, 6144, 1]⟩
abbrev S64x1x2304 : Shape := ⟨3, ![64, 1, 2304]⟩

abbrev nBuf : Space → Nat
  | .hbm => 9
  | .vmem => 7
  | .smem => 0
  | _ => 0

abbrev bufTy : (tb : Table) → Fin (tcTables nBuf tb) → BufTy
  | .hbm, ⟨0, _⟩ => ⟨S1x6144x2048, .bf16⟩
  | .hbm, ⟨1, _⟩ => ⟨S2048x2304, .fp8e4m3⟩
  | .hbm, ⟨2, _⟩ => ⟨S64x2304, .i8⟩
  | .hbm, ⟨3, _⟩ => ⟨S1x6144x2304, .bf16⟩
  | .hbm, ⟨4, _⟩ => ⟨S6144x2048, .bf16⟩
  | .hbm, ⟨5, _⟩ => ⟨S6144x2304, .bf16⟩
  | .hbm, ⟨6, _⟩ => ⟨S6144x2304, .bf16⟩
  | .hbm, ⟨7, _⟩ => ⟨S6144x2048, .fp8e4m3⟩
  | .hbm, ⟨8, _⟩ => ⟨S6144x64, .i8⟩
  | .local _ .vmem, ⟨0, _⟩ => ⟨S6144x2048, .bf16⟩
  | .local _ .vmem, ⟨1, _⟩ => ⟨S2048x2304, .fp8e4m3⟩
  | .local _ .vmem, ⟨2, _⟩ => ⟨S64x2304, .i8⟩
  | .local _ .vmem, ⟨3, _⟩ => ⟨S6144x2304, .bf16⟩
  | .local _ .vmem, ⟨4, _⟩ => ⟨S6144x2304, .bf16⟩
  | .local _ .vmem, ⟨5, _⟩ => ⟨S6144x2048, .fp8e4m3⟩
  | .local _ .vmem, ⟨6, _⟩ => ⟨S6144x64, .i8⟩
  | _, _ => ⟨S1x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2304 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Chunk.lean ====
module
public import proofs.«01_k».proof.Proof.Gen.KernelIdeal.Value

/-! One 128-lane chunk of the kernel body, as functions of the chunk's input.

The body treats its 2048 columns in sixteen chunks of 128 lanes, with the same operations each time.  The definitions
below are those operations once, on whole arrays; `Body.lean` says that each of the sixteen chunks of both runs of the
body is an instance. -/

set_option maxRecDepth 16384

@[expose] public section
noncomputable section

open Idealize.ShloMosaic Idealize.ShloMosaic.TcCoe Idealize.SL.Sem
open Cert.KernelIdeal Cert.KernelIdeal.Gen

namespace Cert.Chunk

variable {F : FTy → Type} [FloatOps F]

/-- The chunk's input as f32. -/
def val (x : Vec F S512x128 .bf16) : FVec F S512x128 .f32 :=
  extf .f32 (shapeCast S512x128 x shapeCasts_S512x128_S512x128) bitsLt_bf16_f32

/-- The number of each lane. -/
def lanes : IVec S512x128 32 := iota .tc S512x128 32 [1] iota_S512x128_d1_w32

/-- One doubling of the aligned group: the maximum of each lane with the lane `down` places on or back. -/
def pairMax (up down : BitVec 32) (a : FVec F S512x128 .f32) : FVec F S512x128 .f32 :=
  maximumf a (select (cmpi .eq (andi lanes (broadcast S512x128 down)) (broadcast S512x128 0#32))
    (dynamicRotate 1 up none a rotates_S512x128_d1) (dynamicRotate 1 down none a rotates_S512x128_d1))

/-- The maximum of the absolute values of each aligned group of 32 lanes. -/
def groupMax (v : FVec F S512x128 .f32) : FVec F S512x128 .f32 :=
  pairMax 112#32 16#32 (pairMax 120#32 8#32 (pairMax 124#32 4#32 (pairMax 126#32 2#32 (pairMax 127#32 1#32 (absf v)))))

/-- The group's maximum over 448. -/
def quot (v : FVec F S512x128 .f32) : FVec F S512x128 .f32 :=
  mulf (groupMax v) (broadcast S512x128 (Scalar.ofBits .f32 0x3B124925#32))

/-- Two to the power of the biased exponent `n`, read off its bits. -/
def pow2 (n : IVec S512x128 32) : FVec F S512x128 .f32 :=
  bitcastToFloat .f32 (shli n (broadcast S512x128 23#32))

/-- One step of the binary search for the exponent field. -/
def fieldStep (q : FVec F S512x128 .f32) (b : BitVec 32) (f : IVec S512x128 32) : IVec S512x128 32 :=
  select (cmpf .oge q (pow2 (addi f (broadcast S512x128 b)))) (addi f (broadcast S512x128 b)) f

/-- The exponent field of `q`. -/
def field (q : FVec F S512x128 .f32) : IVec S512x128 32 :=
  fieldStep q 1#32 (fieldStep q 2#32 (fieldStep q 4#32 (fieldStep q 8#32 (fieldStep q 16#32 (fieldStep q 32#32
    (fieldStep q 64#32 (fieldStep q 128#32 (broadcast S512x128 0#32))))))))

/-- The scale byte: one more than the field, 127 where the field is 0 or 255. -/
def byteOf (f : IVec S512x128 32) : IVec S512x128 32 :=
  select (ori (cmpi .eq f (broadcast S512x128 0#32)) (cmpi .eq f (broadcast S512x128 255#32)))
    (broadcast S512x128 127#32) (addi f (broadcast S512x128 1#32))

/-- The scale byte of a chunk. -/
def byte (v : FVec F S512x128 .f32) : IVec S512x128 32 := byteOf (field (quot v))

/-- The codes of the values `v` under the scale bytes `b`. -/
def codesOf (v : FVec F S512x128 .f32) (b : IVec S512x128 32) : FVec F S512x128 .fp8e4m3 :=
  truncf .fp8e4m3 (minimumf (broadcast S512x128 (Scalar.ofBits .f32 0x43E00000#32))
    (maximumf (broadcast S512x128 (Scalar.ofBits .f32 0xC3E00000#32))
      (mulf v (pow2 (subi (broadcast S512x128 254#32) b))))) bitsLt_fp8e4m3_f32

/-- The codes of a chunk. -/
def codes (v : FVec F S512x128 .f32) : FVec F S512x128 .fp8e4m3 := codesOf v (byte v)

/-- The dequantised codes of a chunk. -/
def deq (v : FVec F S512x128 .f32) : FVec F S512x128 .bf16 :=
  shapeCast S512x128 (truncf .bf16 (mulf (extf .f32 (codes v) bitsLt_fp8e4m3_f32) (pow2 (byte v))) bitsLt_bf16_f32)
    shapeCasts_S512x128_S512x128

/-- The scale bytes of chunk number `c` put at the lanes that are `c` modulo 32. -/
def merge (c : BitVec 32) (b packed : IVec S512x128 32) : IVec S512x128 32 :=
  select (cmpi .eq (andi lanes (broadcast S512x128 31#32)) (broadcast S512x128 c)) b packed

end Cert.Chunk
end
end
-- ==== Proof.GroupMax.lean ====
module
public import Idealize.ShloMosaic.Lib.Pointwise
public import proofs.«01_k».proof.Proof.Chunk

/-! The kernel's group maximum: five doublings over rotated lanes.

After the doubling by `d` each lane holds the maximum over the aligned run of `2 d` lanes it lies in; after the last one
that run is a group of 32 lanes, and the maximum is the one the reference takes over the group. -/

set_option maxRecDepth 16384

@[expose] public section
noncomputable section

open Idealize.ShloMosaic Idealize.ShloMosaic.TcCoe Idealize.SL.Sem
open Cert.KernelIdeal Cert.KernelIdeal.Gen

namespace Cert.Chunk

/-- `b` holds in each lane the maximum of `a` over the aligned run of `d` lanes. -/
def Upto (d : ℕ) (a b : Fin 128 → EReal) : Prop :=
  ∀ (l : Fin 128) (z : EReal), b l ≤ z ↔ ∀ k : Fin 128, k.val / d = l.val / d → a k ≤ z

theorem upto_one (a : Fin 128 → EReal) : Upto 1 a a := by
  intro l z
  constructor
  · intro h k hk
    have : k = l := Fin.ext (by simpa using hk)
    rw [this]; exact h
  · intro h; exact h l rfl

/-- One doubling, when the partner lane lies in the other half of the run of `2 d` lanes. -/
theorem upto_step (d : ℕ) (a b b' : Fin 128 → EReal) (p : Fin 128 → Fin 128) (h : Upto d a b)
    (hb : ∀ l, b' l = max (b l) (b (p l)))
    (hp : ∀ (l : Fin 128) (k : Fin 128), k.val / (2 * d) = l.val / (2 * d) ↔ k.val / d = l.val / d ∨ k.val / d = (p l).val / d) :
    Upto (2 * d) a b' := by
  intro l z
  rw [hb, max_le_iff, h l z, h (p l) z]
  constructor
  · rintro ⟨h1, h2⟩ k hk
    rcases (hp l k).1 hk with e | e
    · exact h1 k e
    · exact h2 k e
  · intro hh
    exact ⟨fun k hk => hh k ((hp l k).2 (.inl hk)), fun k hk => hh k ((hp l k).2 (.inr hk))⟩

/-- The partner lane of the doubling by `d`. -/
def partner (d : ℕ) (l : Fin 128) : Fin 128 :=
  if l.val / d % 2 = 0 then ⟨(l + 128 - (128 - d)) % 128, Nat.mod_lt _ (by norm_num)⟩
  else ⟨(l + 128 - d) % 128, Nat.mod_lt _ (by norm_num)⟩

theorem partner_spec (d : ℕ) (hd : d = 1 ∨ d = 2 ∨ d = 4 ∨ d = 8 ∨ d = 16) (l k : Fin 128) :
    k.val / (2 * d) = l.val / (2 * d) ↔ k.val / d = l.val / d ∨ k.val / d = (partner d l).val / d := by
  obtain ⟨l, hl⟩ := l
  obtain ⟨k, hk⟩ := k
  unfold partner
  rcases hd with rfl | rfl | rfl | rfl | rfl <;> simp only [] <;> split_ifs with hc <;> simp only [] <;> omega

theorem bit_test (d : ℕ) (hd : d = 1 ∨ d = 2 ∨ d = 4 ∨ d = 8 ∨ d = 16) : ∀ l : Fin 128,
    IntOp.cmpi .eq (IntOp.andi (BitVec.ofNat 32 l.val) (BitVec.ofNat 32 d)) 0#32 = if l.val / d % 2 = 0 then 1#1 else 0#1 := by
  rcases hd with rfl | rfl | rfl | rfl | rfl <;> decide +kernel

theorem select_partner (d : ℕ) (hd : d = 1 ∨ d = 2 ∨ d = 4 ∨ d = 8 ∨ d = 16) (b : Fin 128 → EReal) (l : Fin 128) :
    Scalar.select (IntOp.cmpi .eq (IntOp.andi (BitVec.ofNat 32 l.val) (BitVec.ofNat 32 d)) 0#32)
      (b ⟨(l + 128 - (128 - d)) % 128, Nat.mod_lt _ (by norm_num)⟩) (b ⟨(l + 128 - d) % 128, Nat.mod_lt _ (by norm_num)⟩)
      = b (partner d l) := by
  rw [bit_test d hd l]
  unfold partner Scalar.select
  split_ifs <;> first | rfl | contradiction

theorem pair1 (a : FVec Ideal S512x128 .f32) (j0 : Fin 512) (l : Fin 128) :
    pairMax 127#32 1#32 a (ix2 j0 l) = max (a (ix2 j0 l)) (a (ix2 j0 (partner 1 l))) := by
  rw [← select_partner 1 (by simp) (fun k => a (ix2 j0 k)) l]
  pointwise [pairMax, lanes]

theorem pair2 (a : FVec Ideal S512x128 .f32) (j0 : Fin 512) (l : Fin 128) :
    pairMax 126#32 2#32 a (ix2 j0 l) = max (a (ix2 j0 l)) (a (ix2 j0 (partner 2 l))) := by
  rw [← select_partner 2 (by simp) (fun k => a (ix2 j0 k)) l]
  pointwise [pairMax, lanes]

theorem pair4 (a : FVec Ideal S512x128 .f32) (j0 : Fin 512) (l : Fin 128) :
    pairMax 124#32 4#32 a (ix2 j0 l) = max (a (ix2 j0 l)) (a (ix2 j0 (partner 4 l))) := by
  rw [← select_partner 4 (by simp) (fun k => a (ix2 j0 k)) l]
  pointwise [pairMax, lanes]

theorem pair8 (a : FVec Ideal S512x128 .f32) (j0 : Fin 512) (l : Fin 128) :
    pairMax 120#32 8#32 a (ix2 j0 l) = max (a (ix2 j0 l)) (a (ix2 j0 (partner 8 l))) := by
  rw [← select_partner 8 (by simp) (fun k => a (ix2 j0 k)) l]
  pointwise [pairMax, lanes]

theorem pair16 (a : FVec Ideal S512x128 .f32) (j0 : Fin 512) (l : Fin 128) :
    pairMax 112#32 16#32 a (ix2 j0 l) = max (a (ix2 j0 l)) (a (ix2 j0 (partner 16 l))) := by
  rw [← select_partner 16 (by simp) (fun k => a (ix2 j0 k)) l]
  pointwise [pairMax, lanes]

/-- The kernel's group maximum is the maximum over the aligned group of 32 lanes. -/
theorem groupMax_apply (v : FVec Ideal S512x128 .f32) (j0 : Fin 512) (l : Fin 128) :
    groupMax v (ix2 j0 l) = Finset.univ.sup fun i : Fin 32 =>
      max (v (ix2 j0 ⟨l / 32 * 32 + i, by omega⟩)) (- v (ix2 j0 ⟨l / 32 * 32 + i, by omega⟩)) := by
  have h1 := upto_step 1 _ (fun k => absf v (ix2 j0 k)) _ (partner 1) (upto_one _) (pair1 (absf v) j0) (partner_spec 1 (by simp))
  have h2 := upto_step 2 _ _ _ (partner 2) h1 (pair2 _ j0) (partner_spec 2 (by simp))
  have h4 := upto_step 4 _ _ _ (partner 4) h2 (pair4 _ j0) (partner_spec 4 (by simp))
  have h8 := upto_step 8 _ _ _ (partner 8) h4 (pair8 _ j0) (partner_spec 8 (by simp))
  have h16 := upto_step 16 _ _ _ (partner 16) h8 (pair16 _ j0) (partner_spec 16 (by simp))
  refine eq_of_forall_ge_iff fun z => ?_
  refine (h16 l z).trans ?_
  rw [Finset.sup_le_iff]
  constructor
  · intro h i _
    exact h ⟨l / 32 * 32 + i, by omega⟩ (by simp only []; omega)
  · intro h k hk
    have := h ⟨k % 32, by omega⟩ (Finset.mem_univ _)
    have e : (⟨l / 32 * 32 + k % 32, by omega⟩ : Fin 128) = k := Fin.ext (by simp only [] at hk ⊢; omega)
    rw [e] at this
    exact this

end Cert.Chunk
end
end
-- ==== Proof.Scalar.lean ====
module
public import Idealize.ShloMosaic.PureOps.Ideal
public import Idealize.ShloMosaic.PureOps.Ideal.Laws
public import Mathlib.Analysis.SpecialFunctions.Pow.Real

/-! One element of the quantiser over the extended reals: the biased exponent of a quotient.

The kernel finds the exponent field of `q` by a binary search over the powers of two its bits encode, and takes one more
than it as the scale byte; the reference takes `floor (log₂ q) + 1`.  `expo_spec` says that the two are the same number
`n - 127`, and the lemmas after it read every power of two either side makes of it. -/

set_option maxRecDepth 16384

@[expose] public section
noncomputable section

open Idealize.ShloMosaic

namespace Cert.Mx

/-- Two to the power of a biased exponent, read off its bits. -/
def p2 (n : BitVec 32) : EReal := Ideal.ofBits .f32 (IntOp.shli .vector n 23#32)

/-- One step of the kernel's binary search. -/
def step (q : EReal) (b f : BitVec 32) : BitVec 32 := if p2 (IntOp.addi f b) ≤ q then IntOp.addi f b else f

/-- The kernel's binary search for the exponent field. -/
def field (q : EReal) : BitVec 32 :=
  step q 1#32 (step q 2#32 (step q 4#32 (step q 8#32 (step q 16#32 (step q 32#32 (step q 64#32 (step q 128#32 0#32)))))))

/-- The kernel's scale byte of an exponent field. -/
def byteOf (f : BitVec 32) : BitVec 32 :=
  Scalar.select (IntOp.ori (IntOp.cmpi .eq f 0#32) (IntOp.cmpi .eq f 255#32)) 127#32 (IntOp.addi f 1#32)

/-- The kernel's scale byte of a quotient. -/
def byte (q : EReal) : BitVec 32 := byteOf (field q)

/-- An absolute value. -/
def abs (x : EReal) : EReal := max x (-x)

/-- The greatest absolute value of a block of 32. -/
def amax (g : Fin 32 → EReal) : EReal := Finset.univ.sup fun i => abs (g i)

/-- A block's quotient: its greatest absolute value over 448. -/
def quot (g : Fin 32 → EReal) : EReal := amax g * Ideal.ofBits .f32 0x3B124925#32

/-- The kernel's code of a value in a block of quotient `q`. -/
def code (x q : EReal) : EReal :=
  min (Ideal.ofBits .f32 1138753536#32) (max (Ideal.ofBits .f32 3286237184#32) (x * p2 (IntOp.subi 254#32 (byte q))))

/-- The reference's exponent of a quotient. -/
def expo (q : EReal) : BitVec 32 :=
  Scalar.select (IntOp.ori (BitVec.ofBool (decide (q < Ideal.ofBits .f32 8388608#32)))
      (BitVec.ofBool (decide (q = Ideal.ofBits .f32 2139095040#32)))) 0#32
    (IntOp.addi (Ideal.fptosi 32 (Ideal.liftRound Int.floor
      (Ideal.div (Ideal.log q) (Ideal.log (Ideal.ofBits .f32 1073741824#32))))) 1#32)

/-- The reference's scale byte. -/
def refByte (q : EReal) : BitVec 8 := BitVec.setWidth 8 (IntOp.addi (expo q) 127#32)

/-- The power of two the reference makes of the stored byte `b`. -/
def refScale (b : BitVec 8) : EReal := Ideal.exp2 (((IntOp.subi (BitVec.setWidth 32 b) 127#32).toInt : ℝ) : EReal)

/-- The reference's code of a value in a block of quotient `q`. -/
def refCode (x q : EReal) : EReal :=
  min (Ideal.ofBits .f32 1138753536#32) (max (Ideal.ofBits .f32 3286237184#32)
    (x * Ideal.exp2 (((IntOp.subi 0#32 (expo q)).toInt : ℝ) : EReal)))

theorem shl_field : ∀ k : Fin 256, (IntOp.shli .vector (BitVec.ofNat 32 k) 23#32).extractLsb' 23 8 = BitVec.ofNat 8 k
    ∧ (IntOp.shli .vector (BitVec.ofNat 32 k) 23#32).extractLsb' 31 1 = 0#1
    ∧ (IntOp.shli .vector (BitVec.ofNat 32 k) 23#32).extractLsb' 0 23 = 0#23 := by
  decide +kernel

/-- The power of two a biased exponent between 1 and 254 encodes. -/
theorem p2_mid (k : ℕ) (h1 : 1 ≤ k) (h2 : k ≤ 254) : p2 (BitVec.ofNat 32 k) = (((2 : ℝ) ^ ((k : ℤ) - 127) : ℝ) : EReal) := by
  obtain ⟨ha, hb, hc⟩ := shl_field ⟨k, by omega⟩
  unfold p2 Ideal.ofBits Ideal.ieee
  simp only [Nat.reduceAdd] at *
  rw [ha, hb, hc]
  have e1 : (BitVec.ofNat 8 k).toNat = k := by simp; omega
  simp only [e1]
  rw [if_neg (by omega), if_neg (by omega)]
  congr 1
  have : (2 : ℝ) ^ ((k : ℤ) - 127) = 2 ^ 23 * (2 : ℝ) ^ ((k : ℤ) - 127 - 23) := by
    rw [← zpow_natCast, ← zpow_add₀ (by norm_num)]; congr 1; push_cast; ring
  rw [this]
  norm_num

/-- The greatest field encodes the infinity. -/
theorem p2_top : p2 255#32 = ⊤ := by
  obtain ⟨ha, hb, hc⟩ := shl_field ⟨255, by omega⟩
  unfold p2 Ideal.ofBits Ideal.ieee
  simp only [Nat.reduceAdd] at *
  rw [ha, hb, hc]
  simp

/-- The binary search's invariant: what the remaining bits, `b` in all, can still add. -/
def Inv (q : EReal) (b f : ℕ) : Prop :=
  (f = 0 ∨ p2 (BitVec.ofNat 32 f) ≤ q) ∧ f + b ≤ 256 ∧ (f + b = 256 ∨ ¬ p2 (BitVec.ofNat 32 (f + b)) ≤ q)

theorem step_inv (q : EReal) (b : ℕ) (F : BitVec 32) (h : ∃ f, F = BitVec.ofNat 32 f ∧ Inv q (2 * b) f) :
    ∃ f, step q (BitVec.ofNat 32 b) F = BitVec.ofNat 32 f ∧ Inv q b f := by
  obtain ⟨f, rfl, h1, h2, h3⟩ := h
  have e : IntOp.addi (BitVec.ofNat 32 f) (BitVec.ofNat 32 b) = BitVec.ofNat 32 (f + b) := by
    unfold IntOp.addi; rw [BitVec.ofNat_add]
  unfold step
  rw [e]
  by_cases hq : p2 (BitVec.ofNat 32 (f + b)) ≤ q
  · rw [if_pos hq]
    exact ⟨f + b, rfl, .inr hq, by omega, by rw [show f + b + b = f + 2 * b by ring]; exact h3⟩
  · rw [if_neg hq]
    exact ⟨f, rfl, h1, by omega, .inr hq⟩

theorem field_inv (q : EReal) : ∃ f, field q = BitVec.ofNat 32 f ∧ Inv q 1 f := by
  unfold field
  refine step_inv q 1 _ (step_inv q 2 _ (step_inv q 4 _ (step_inv q 8 _ (step_inv q 16 _ (step_inv q 32 _
    (step_inv q 64 _ (step_inv q 128 _ ⟨0, rfl, .inl rfl, by norm_num, .inl (by norm_num)⟩)))))))

theorem tiny : Ideal.ofBits .f32 8388608#32 = (((2 : ℝ) ^ (-126 : ℤ) : ℝ) : EReal) := by
  have := p2_mid 1 (by norm_num) (by norm_num)
  unfold p2 at this
  rw [show IntOp.shli .vector (BitVec.ofNat 32 1) 23#32 = 8388608#32 by decide] at this
  rw [this]; norm_num

theorem inf : Ideal.ofBits .f32 2139095040#32 = ⊤ := by
  have := p2_top
  unfold p2 at this
  rwa [show IntOp.shli .vector 255#32 23#32 = 2139095040#32 by decide] at this

theorem two : Ideal.ofBits .f32 1073741824#32 = ((2 : ℝ) : EReal) := by
  have := p2_mid 128 (by norm_num) (by norm_num)
  unfold p2 at this
  rw [show IntOp.shli .vector (BitVec.ofNat 32 128) 23#32 = 1073741824#32 by decide] at this
  rw [this]; norm_num

theorem fptosi_int (n : ℤ) (h1 : -1000 ≤ n) (h2 : n ≤ 1000) : Ideal.fptosi 32 (((n : ℝ)) : EReal) = BitVec.ofInt 32 n := by
  rw [Ideal.fptosi, Ideal.toIntClamped_coe]
  congr 1
  have : (if 0 ≤ (n : ℝ) then ⌊(n : ℝ)⌋ else ⌈(n : ℝ)⌉) = n := by simp
  simp
  omega

theorem byteOf_field : ∀ f : Fin 256, byteOf (BitVec.ofNat 32 f) = if f.val = 0 ∨ f.val = 255 then 127#32 else BitVec.ofNat 32 (f + 1) := by
  decide +kernel

/-- The kernel's scale byte and the reference's exponent are one number, the byte 127 more. -/
theorem expo_spec (q : EReal) (h0 : 0 ≤ q) (h : q < (((2 : ℝ) ^ (120 : ℤ) : ℝ) : EReal) ∨ q = ⊤) :
    ∃ n : ℕ, 2 ≤ n ∧ n ≤ 247 ∧ byte q = BitVec.ofNat 32 n ∧ expo q = BitVec.ofInt 32 ((n : ℤ) - 127) := by
  obtain ⟨f, hf, hI1, hI2, hI3⟩ := field_inv q
  have hb := byteOf_field ⟨f, by omega⟩
  simp only at hb
  unfold byte
  rw [hf, hb]
  have small : ∀ c : Prop, [Decidable c] → c → Scalar.select (IntOp.ori (BitVec.ofBool (decide c)) (BitVec.ofBool (decide (q = ⊤)))) 0#32
    (IntOp.addi (Ideal.fptosi 32 (Ideal.liftRound Int.floor
      (Ideal.div (Ideal.log q) (Ideal.log (((2 : ℝ) : EReal)))))) 1#32) = 0#32 := by
    intro c _ hc
    simp only [hc, decide_true]
    unfold Scalar.select
    rw [if_pos]
    cases decide (q = ⊤) <;> rfl
  unfold expo
  rw [tiny, inf, two]
  rcases h with h | rfl
  swap
  · have : f = 255 := by
      rcases hI3 with h | h
      · omega
      · exact absurd le_top h
    refine ⟨127, by norm_num, by norm_num, by simp [this], ?_⟩
    unfold Scalar.select
    rw [if_pos]
    · rfl
    · simp only [decide_true]
      cases decide ((⊤ : EReal) < (((2 : ℝ) ^ (-126 : ℤ) : ℝ) : EReal)) <;> rfl
  have hne : f ≠ 255 := by
    rintro rfl
    rcases hI1 with h' | h'
    · omega
    · rw [show BitVec.ofNat 32 255 = 255#32 from rfl, p2_top, top_le_iff] at h'
      subst h'
      exact absurd h (by simp)
  have hlt : q < p2 (BitVec.ofNat 32 (f + 1)) := by
    rcases hI3 with h' | h'
    · omega
    · exact not_le.1 h'
  have h246 : f ≤ 246 := by
    rcases hI1 with h' | h'
    · omega
    by_contra hc
    rw [p2_mid f (by omega) (by omega)] at h'
    have := lt_of_le_of_lt h' h
    rw [EReal.coe_lt_coe_iff, zpow_lt_zpow_iff_right₀ (by norm_num)] at this
    omega
  rw [p2_mid (f + 1) (by omega) (by omega)] at hlt
  by_cases hf0 : f = 0
  · subst hf0
    refine ⟨127, by norm_num, by norm_num, by simp, ?_⟩
    rw [small _ (by simpa using hlt)]
    rfl
  have hge : p2 (BitVec.ofNat 32 f) ≤ q := by
    rcases hI1 with h' | h'
    · exact absurd h' hf0
    · exact h'
  rw [p2_mid f (by omega) (by omega)] at hge
  induction q with
  | bot => exact absurd h0 (by simp)
  | top => exact absurd h (by simp)
  | coe r =>
    rw [EReal.coe_lt_coe_iff] at hlt h
    rw [EReal.coe_le_coe_iff] at hge
    have hr : 0 < r := lt_of_lt_of_le (by positivity) hge
    refine ⟨f + 1, by omega, by omega, by simp [hf0, hne], ?_⟩
    have h1 : ¬ ((r : EReal) < (((2 : ℝ) ^ (-126 : ℤ) : ℝ) : EReal)) := by
      rw [EReal.coe_lt_coe_iff, not_lt]
      refine le_trans ?_ hge
      rw [zpow_le_zpow_iff_right₀ (by norm_num)]
      omega
    have h2 : ¬ ((r : EReal) = ⊤) := EReal.coe_ne_top r
    unfold Scalar.select
    simp only [h1, h2, decide_false]
    rw [if_neg (by decide)]
    have hlog : Ideal.log (r : EReal) = ((Real.log r : ℝ) : EReal) := by
      show (if r ≤ 0 then (⊥ : EReal) else ((Real.log r : ℝ) : EReal)) = _
      rw [if_neg (not_le.2 hr)]
    have hlog2 : Ideal.log ((2 : ℝ) : EReal) = ((Real.log 2 : ℝ) : EReal) := by
      show (if (2 : ℝ) ≤ 0 then (⊥ : EReal) else ((Real.log 2 : ℝ) : EReal)) = _
      rw [if_neg (by norm_num)]
    have hl2 : (0 : ℝ) < Real.log 2 := Real.log_pos (by norm_num)
    have hdiv : Ideal.div ((Real.log r : ℝ) : EReal) ((Real.log 2 : ℝ) : EReal) = ((Real.log r / Real.log 2 : ℝ) : EReal) := by
      unfold Ideal.div
      rw [if_neg (by rw [EReal.coe_eq_zero]; exact hl2.ne'), ← EReal.coe_inv, ← EReal.coe_mul]
      rfl
    have hfl : Int.floor (Real.log r / Real.log 2) = (f : ℤ) - 127 := by
      rw [Int.floor_eq_iff]
      constructor
      · rw [le_div_iff₀ hl2, ← Real.log_zpow]; exact Real.log_le_log (by positivity) hge
      · have : (((f : ℤ) - 127 : ℤ) : ℝ) + 1 = (((f + 1 : ℕ) : ℤ) - 127 : ℤ) := by push_cast; ring
        rw [this, div_lt_iff₀ hl2, ← Real.log_zpow]; exact Real.log_lt_log hr hlt
    rw [hlog, hlog2, hdiv]
    show IntOp.addi (Ideal.fptosi 32 (((⌊Real.log r / Real.log 2⌋ : ℝ)) : EReal)) 1#32 = _
    rw [hfl, fptosi_int _ (by omega) (by omega)]
    unfold IntOp.addi
    rw [show (1#32 : BitVec 32) = BitVec.ofInt 32 1 from rfl, ← BitVec.ofInt_add]
    congr 1
    push_cast; ring

/-- The exponential the reference takes of an integer. -/
theorem exp2_int (n : ℤ) : Ideal.exp2 (((n : ℝ)) : EReal) = (((2 : ℝ) ^ n : ℝ) : EReal) := by
  show ((Real.rpow 2 (n : ℝ) : ℝ) : EReal) = _
  congr 1
  exact Real.rpow_intCast 2 n

theorem toInts : ∀ n : Fin 256, 2 ≤ n.val → n.val ≤ 247 →
    (IntOp.subi 0#32 (BitVec.ofInt 32 ((n.val : ℤ) - 127))).toInt = 127 - (n.val : ℤ)
    ∧ BitVec.setWidth 8 (IntOp.addi (BitVec.ofInt 32 ((n.val : ℤ) - 127)) 127#32) = BitVec.ofNat 8 n
    ∧ BitVec.setWidth 8 (BitVec.ofNat 32 n.val) = BitVec.ofNat 8 n
    ∧ IntOp.subi 254#32 (BitVec.ofNat 32 n.val) = BitVec.ofNat 32 (254 - n) := by
  decide +kernel

theorem toInts8 : ∀ n : Fin 256,
    (IntOp.subi (BitVec.setWidth 32 (BitVec.ofNat 8 n.val)) 127#32).toInt = (n.val : ℤ) - 127
    ∧ BitVec.setWidth 32 (BitVec.ofNat 8 n.val) = BitVec.ofNat 32 n.val := by
  decide +kernel

/-- Both sides multiply a value by the same power of two before it is rounded to a code, -/
theorem inv_scale (q : EReal) (h0 : 0 ≤ q) (h : q < (((2 : ℝ) ^ (120 : ℤ) : ℝ) : EReal) ∨ q = ⊤) :
    Ideal.exp2 (((IntOp.subi 0#32 (expo q)).toInt : ℝ) : EReal) = p2 (IntOp.subi 254#32 (byte q)) := by
  obtain ⟨n, h1, h2, hb, he⟩ := expo_spec q h0 h
  obtain ⟨t1, -, -, t4⟩ := toInts ⟨n, by omega⟩ h1 h2
  simp only at t1 t4
  rw [hb, he, t1, t4, exp2_int, p2_mid _ (by omega) (by omega)]
  congr 2
  push_cast [Nat.cast_sub (show n ≤ 254 by omega)]; ring

/-- both store the same scale byte, -/
theorem scale_byte (q : EReal) (h0 : 0 ≤ q) (h : q < (((2 : ℝ) ^ (120 : ℤ) : ℝ) : EReal) ∨ q = ⊤) :
    BitVec.setWidth 8 (IntOp.addi (expo q) 127#32) = BitVec.setWidth 8 (byte q) := by
  obtain ⟨n, h1, h2, hb, he⟩ := expo_spec q h0 h
  obtain ⟨-, t2, t3, -⟩ := toInts ⟨n, by omega⟩ h1 h2
  simp only at t2 t3
  rw [hb, he, t2, t3]

/-- the byte fits in eight bits, -/
theorem byte_nat (q : EReal) (h0 : 0 ≤ q) (h : q < (((2 : ℝ) ^ (120 : ℤ) : ℝ) : EReal) ∨ q = ⊤) :
    ∃ n : ℕ, 2 ≤ n ∧ n ≤ 247 ∧ byte q = BitVec.ofNat 32 n := by
  obtain ⟨n, h1, h2, hb, -⟩ := expo_spec q h0 h
  exact ⟨n, h1, h2, hb⟩

/-- and what the reference makes of the stored byte is a positive real, the kernel's power of two. -/
theorem scale (q : EReal) (h0 : 0 ≤ q) (h : q < (((2 : ℝ) ^ (120 : ℤ) : ℝ) : EReal) ∨ q = ⊤) :
    ∃ s : ℝ, 0 < s ∧ p2 (byte q) = (s : EReal)
      ∧ Ideal.exp2 (((IntOp.subi (BitVec.setWidth 32 (BitVec.setWidth 8 (byte q))) 127#32).toInt : ℝ) : EReal) = (s : EReal) := by
  obtain ⟨n, h1, h2, hb, he⟩ := expo_spec q h0 h
  obtain ⟨-, -, t3, -⟩ := toInts ⟨n, by omega⟩ h1 h2
  obtain ⟨u1, -⟩ := toInts8 ⟨n, by omega⟩
  simp only at t3 u1
  refine ⟨(2 : ℝ) ^ ((n : ℤ) - 127), by positivity, ?_, ?_⟩
  · rw [hb, p2_mid n (by omega) (by omega)]
  · rw [hb, t3, u1, exp2_int]

/-- A weight's scale byte between 1 and 254 is read by both sides as one positive real. -/
theorem wscale (b : BitVec 8) (h1 : 1 ≤ b.toNat) (h2 : b.toNat ≤ 254) :
    ∃ s : ℝ, 0 < s ∧ p2 (BitVec.setWidth 32 b) = (s : EReal)
      ∧ Ideal.exp2 (((IntOp.subi (BitVec.setWidth 32 b) 127#32).toInt : ℝ) : EReal) = (s : EReal) := by
  obtain ⟨u1, u2⟩ := toInts8 ⟨b.toNat, b.isLt⟩
  have hb : BitVec.ofNat 8 b.toNat = b := by simp
  simp only [hb] at u1 u2
  refine ⟨(2 : ℝ) ^ ((b.toNat : ℤ) - 127), by positivity, ?_, ?_⟩
  · rw [u2, p2_mid _ h1 h2]
  · rw [u1, exp2_int]

end Cert.Mx
end
end
-- ==== Proof.ChunkVal.lean ====
module
public import proofs.«01_k».proof.Proof.GroupMax
public import proofs.«01_k».proof.Proof.Scalar

/-! One chunk of the kernel body, element by element.

Each lane's code, scale byte and dequantised value are the scalar functions of `Scalar.lean` at the lane's value and at
the quotient of its aligned group of 32 lanes. -/

set_option maxRecDepth 16384

@[expose] public section
noncomputable section

open Idealize.ShloMosaic Idealize.ShloMosaic.TcCoe Idealize.SL.Sem
open Cert.KernelIdeal Cert.KernelIdeal.Gen

namespace Cert.Chunk

/-- The quotient of the aligned group of 32 lanes that lane `l` of row `r` lies in. -/
def laneQuot (v : FVec Ideal S512x128 .f32) (r : Fin 512) (l : Fin 128) : EReal :=
  Mx.quot fun i : Fin 32 => v (ix2 r ⟨l / 32 * 32 + i, by omega⟩)

theorem quot_apply (v : FVec Ideal S512x128 .f32) (r : Fin 512) (l : Fin 128) : quot v (ix2 r l) = laneQuot v r l := by
  unfold laneQuot Mx.quot Mx.amax Mx.abs
  rw [← groupMax_apply]
  pointwise [quot]

theorem fieldStep_apply (q : FVec Ideal S512x128 .f32) (b : BitVec 32) (f : IVec S512x128 32) (r : Fin 512) (l : Fin 128) :
    fieldStep q b f (ix2 r l) = Mx.step (q (ix2 r l)) b (f (ix2 r l)) := by
  unfold Mx.step Mx.p2
  pointwise [fieldStep, pow2]

theorem field_apply (q : FVec Ideal S512x128 .f32) (r : Fin 512) (l : Fin 128) :
    field q (ix2 r l) = Mx.field (q (ix2 r l)) := by
  unfold field Mx.field
  simp only [fieldStep_apply]
  rfl

theorem byteOf_apply (f : IVec S512x128 32) (r : Fin 512) (l : Fin 128) : byteOf f (ix2 r l) = Mx.byteOf (f (ix2 r l)) := by
  unfold Mx.byteOf
  pointwise [byteOf]

theorem byte_apply (v : FVec Ideal S512x128 .f32) (r : Fin 512) (l : Fin 128) : byte v (ix2 r l) = Mx.byte (laneQuot v r l) := by
  unfold byte Mx.byte
  rw [byteOf_apply, field_apply, quot_apply]

theorem codes_apply (v : FVec Ideal S512x128 .f32) (r : Fin 512) (l : Fin 128) :
    codes v (ix2 r l) = Mx.code (v (ix2 r l)) (laneQuot v r l) := by
  unfold Mx.code Mx.p2
  rw [← byte_apply]
  unfold codes
  pointwise [codesOf, pow2]

theorem deq_apply (v : FVec Ideal S512x128 .f32) (r : Fin 512) (l : Fin 128) :
    deq v (ix2 r l) = Mx.code (v (ix2 r l)) (laneQuot v r l) * Mx.p2 (Mx.byte (laneQuot v r l)) := by
  rw [← codes_apply, ← byte_apply]
  unfold Mx.p2
  pointwise [deq, pow2]

theorem val_apply (x : Vec Ideal S512x128 .bf16) (r : Fin 512) (l : Fin 128) : val x (ix2 r l) = x (ix2 r l) := by
  pointwise [val]

theorem lane_test (c : Fin 16) : ∀ l : Fin 128,
    IntOp.cmpi .eq (IntOp.andi (BitVec.ofNat 32 l.val) 31#32) (BitVec.ofNat 32 c.val) = if l.val % 32 = c.val then 1#1 else 0#1 := by
  revert c
  decide +kernel

theorem merge_apply (c : Fin 16) (b p : IVec S512x128 32) (r : Fin 512) (l : Fin 128) :
    merge (BitVec.ofNat 32 c.val) b p (ix2 r l) = if l.val % 32 = c.val then b (ix2 r l) else p (ix2 r l) := by
  have h : merge (BitVec.ofNat 32 c.val) b p (ix2 r l)
      = Scalar.select (IntOp.cmpi .eq (IntOp.andi (BitVec.ofNat 32 l.val) 31#32) (BitVec.ofNat 32 c.val)) (b (ix2 r l)) (p (ix2 r l)) := by
    pointwise [merge, lanes]
  rw [h, lane_test]
  unfold Scalar.select
  split_ifs <;> first | rfl | contradiction

/-- The sixteen chunks' scale bytes in one register array. -/
def packed {F : FTy → Type} [FloatOps F] (s : Fin 16 → Vec F S512x128 .bf16) : IVec S512x128 32 :=
  merge 15#32 (byte (val (s 15))) (merge 14#32 (byte (val (s 14))) (merge 13#32 (byte (val (s 13)))
    (merge 12#32 (byte (val (s 12))) (merge 11#32 (byte (val (s 11))) (merge 10#32 (byte (val (s 10)))
    (merge 9#32 (byte (val (s 9))) (merge 8#32 (byte (val (s 8))) (merge 7#32 (byte (val (s 7)))
    (merge 6#32 (byte (val (s 6))) (merge 5#32 (byte (val (s 5))) (merge 4#32 (byte (val (s 4)))
    (merge 3#32 (byte (val (s 3))) (merge 2#32 (byte (val (s 2))) (merge 1#32 (byte (val (s 1)))
    (merge 0#32 (byte (val (s 0))) (broadcast S512x128 0#32))))))))))))))))

theorem packed_apply (s : Fin 16 → Vec Ideal S512x128 .bf16) (r : Fin 512) (l : Fin 128) (c : Fin 16) (h : l.val % 32 = c.val) :
    packed s (ix2 r l) = Mx.byte (laneQuot (val (s c)) r l) := by
  rw [← byte_apply]
  unfold packed
  have m := fun (c : Fin 16) b p => merge_apply c b p r l
  have m0 := m 0; have m1 := m 1; have m2 := m 2; have m3 := m 3; have m4 := m 4; have m5 := m 5; have m6 := m 6
  have m7 := m 7; have m8 := m 8; have m9 := m 9; have m10 := m 10; have m11 := m 11; have m12 := m 12; have m13 := m 13
  have m14 := m 14; have m15 := m 15
  erw [m15, m14, m13, m12, m11, m10, m9, m8, m7, m6, m5, m4, m3, m2, m1, m0]
  rw [h]
  fin_cases c <;> rfl

end Cert.Chunk
end
end
-- ==== Proof.Scales.lean ====
module
public import proofs.«01_k».proof.Proof.ChunkVal

/-! The kernel's product and its scale bytes, element by element.

The scale bytes of the sixteen chunks stand in one 512 x 128 array, chunk `c`'s at the lanes that are `c` modulo 32.  The
kernel gathers them by a product with a 0/1 matrix, which has in column `n` its only 1 at lane `32 (n mod 4) + n / 4`:
the lane that holds the byte of block `n`. -/

set_option maxRecDepth 16384

@[expose] public section
noncomputable section

open Idealize.ShloMosaic Idealize.ShloMosaic.TcCoe Idealize.SL.Sem
open Cert.KernelIdeal Cert.KernelIdeal.Gen

namespace Cert.Chunk

/-- The column that the 0/1 matrix picks lane `x` for. -/
theorem pick_column : ∀ x : Fin 128,
    IntOp.addi (IntOp.muli (4#32) (IntOp.andi (BitVec.ofNat 32 x.val) 31#32))
      (Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 x.val) 32#32) 0#32))
        (IntOp.subi (IntOp.divsi ArithUnit.vector (BitVec.ofNat 32 x.val) 32#32) 1#32)
        (IntOp.divsi ArithUnit.vector (BitVec.ofNat 32 x.val) 32#32)) = BitVec.ofNat 32 (4 * (x.val % 32) + x.val / 32) := by
  decide +kernel

theorem pick_test (n : Fin 64) (k : ℕ) (hk : k < 256) :
    (BitVec.setWidth 32 (IntOp.cmpi CmpIPredicate.eq (BitVec.ofNat 32 n.val) (BitVec.ofNat 32 k))).toInt = if n.val = k then 1 else 0 := by
  by_cases h : n.val = k
  · rw [if_pos h, h]
    have : IntOp.cmpi CmpIPredicate.eq (BitVec.ofNat 32 k) (BitVec.ofNat 32 k) = 1#1 := by simp [IntOp.cmpi]
    rw [this]; rfl
  · rw [if_neg h]
    have : IntOp.cmpi CmpIPredicate.eq (BitVec.ofNat 32 n.val) (BitVec.ofNat 32 k) = 0#1 := by
      have hne : BitVec.ofNat 32 n.val ≠ BitVec.ofNat 32 k := by
        intro e
        have := congrArg BitVec.toNat e
        rw [BitVec.toNat_ofNat, BitVec.toNat_ofNat, Nat.mod_eq_of_lt (by omega), Nat.mod_eq_of_lt (by omega)] at this
        exact h this
      show BitVec.ofBool (_ == _) = 0#1
      rw [beq_eq_false_iff_ne.2 hne]; rfl
    rw [this]; rfl

theorem fptosi_toInt (b : BitVec 32) : Ideal.fptosi 32 (((b.toInt : ℝ)) : EReal) = b := by
  rw [Ideal.fptosi, Ideal.toIntClamped_coe]
  have h1 := b.le_toInt
  have h2 := b.toInt_lt
  simp only [Int.floor_intCast, Int.ceil_intCast, ite_self]
  rw [min_eq_right (by norm_num at h2 ⊢; omega), max_eq_right (by norm_num at h1 ⊢; omega)]
  exact BitVec.ofInt_toInt

/-- The stored scale byte of block `n`: the packed array's at lane `32 (n mod 4) + n / 4`. -/
theorem scales_apply (p : IVec S512x128 32) (r : Fin 512) (n : Fin 64) :
    k0_pay288 (F := Ideal) p (iota Kind.tc S128x64 32 [0] iota_S128x64_d0_w32) (iota Kind.tc S128x64 32 [1] iota_S128x64_d1_w32)
      k0_pay286 (32#32) k0_pay287 (ix2 r n) = BitVec.setWidth 8 (p (ix2 r ⟨32 * (n % 4) + n / 4, by omega⟩)) := by
  pointwise [k0_pay288, k0_pay286, k0_pay287]
  congr 1
  refine Eq.trans ?_ (fptosi_toInt _)
  refine congrArg (Ideal.fptosi 32) ?_
  refine (Finset.sum_eq_single (⟨32 * (n % 4) + n / 4, by omega⟩ : Fin 128) ?_ ?_).trans ?_
  · intro x _ hx
    rw [pick_column x]
    show ((((p (ix2 r x)).toInt : ℝ) : EReal)) * ((((BitVec.setWidth 32 _).toInt : ℝ)) : EReal) = 0
    rw [pick_test n _ (by omega), if_neg]
    · simp
    · intro e
      exact hx (Fin.ext (by simp only []; omega))
  · intro h; exact absurd (Finset.mem_univ _) h
  · rw [pick_column]
    show ((((p (ix2 r _)).toInt : ℝ) : EReal)) * ((((BitVec.setWidth 32 _).toInt : ℝ)) : EReal) = _
    rw [pick_test n _ (by simp only []; omega), if_pos (by simp only []; omega)]
    simp

/-- The kernel's product: one row of the dequantised input times one column of the scaled weights, and the residual. -/
theorem product_apply (x : Vec Ideal S512x2048 .bf16) (w : Vec Ideal S2048x2304 .bf16) (s : Vec Ideal S512x2304 .bf16)
    (r : Fin 512) (n : Fin 2304) :
    k0_pay289 (F := Ideal) x w s (ix2 r n) = ∑ k : Fin 2048, x (ix2 r k) * w (ix2 k n) + s (ix2 r n) := by
  pointwise [k0_pay289]

/-- The scales of the weights as powers of two. -/
theorem wscales_apply (b : Vec Ideal S64x2304 .i8) (g : Fin 64) (n : Fin 2304) :
    k0_pay1 (F := Ideal) b (ix2 g n) = Mx.p2 (BitVec.setWidth 32 (b (ix2 g n))) := by
  unfold Mx.p2
  pointwise [k0_pay1]

end Cert.Chunk
end
end
-- ==== Proof.Body.lean ====
module
public import proofs.«01_k».proof.Proof.Scales
public import Idealize.ShloMosaic.Lib.Ring

/-! The pieces one run of the kernel body stores.

The body stores its codes and the dequantised values in sixteen pieces of 128 columns, and at the first grid point the scaled
weights in sixty-four pieces of 32 rows.  Each kind of piece is one function of its place (`codePiece`, `deqPiece`,
`weightPiece`), and the pieces that the two runs of the body list are these. -/

set_option maxRecDepth 16384

@[expose] public section
noncomputable section

open Idealize.ShloMosaic Idealize.ShloMosaic.TcCoe Idealize.SL.Sem
open Cert.KernelIdeal Cert.KernelIdeal.Gen

namespace Cert.Body

open Cert.Chunk

section Read

variable {F : FTy → Type} [FloatOps F]
variable (m : Memref sig .tc .vmem S512x2048 .bf16) (h : m.IsWhole) (x0 : Vec F S512x2048 .bf16)

/-- The 128 columns from column `k` on, as the body loads them. -/
abbrev slab (k : ℕ) (inb : ∀ a, (![0, k] : Fin 2 → ℕ) a + (![512, 128] : Fin 2 → ℕ) a ≤ S512x2048.size a) : Vec F S512x128 .bf16 :=
  View.readAt (Elt F) m.view (Rect.unit (s := S512x2048) ![0, k] ![512, 128] inb).toLoadRect (h.unread x0)

/-- The stored piece of codes at column `k`. -/
def codePiece (k : ℕ) (inb : ∀ a, (![0, k] : Fin 2 → ℕ) a + (![512, 128] : Fin 2 → ℕ) a ≤ S512x2048.size a) :
    View.Piece (Elt F) S512x2048 .fp8e4m3 :=
  ⟨Rect.unit (s := S512x2048) ![0, k] ![512, 128] inb, codes (val (slab m h x0 k inb))⟩

/-- The stored piece of dequantised codes at column `k`. -/
def deqPiece (k : ℕ) (inb : ∀ a, (![0, k] : Fin 2 → ℕ) a + (![512, 128] : Fin 2 → ℕ) a ≤ S512x2048.size a) :
    View.Piece (Elt F) S512x2048 .bf16 :=
  ⟨Rect.unit (s := S512x2048) ![0, k] ![512, 128] inb, deq (val (slab m h x0 k inb))⟩

/-- The sixteen pieces of codes. -/
def codeList : List (View.Piece (Elt F) S512x2048 .fp8e4m3) :=
  [codePiece m h x0 1920 inb_S512x2048_S512x128_0_1920,
   codePiece m h x0 1792 inb_S512x2048_S512x128_0_1792,
   codePiece m h x0 1664 inb_S512x2048_S512x128_0_1664,
   codePiece m h x0 1536 inb_S512x2048_S512x128_0_1536,
   codePiece m h x0 1408 inb_S512x2048_S512x128_0_1408,
   codePiece m h x0 1280 inb_S512x2048_S512x128_0_1280,
   codePiece m h x0 1152 inb_S512x2048_S512x128_0_1152,
   codePiece m h x0 1024 inb_S512x2048_S512x128_0_1024,
   codePiece m h x0 896 inb_S512x2048_S512x128_0_896,
   codePiece m h x0 768 inb_S512x2048_S512x128_0_768,
   codePiece m h x0 640 inb_S512x2048_S512x128_0_640,
   codePiece m h x0 512 inb_S512x2048_S512x128_0_512,
   codePiece m h x0 384 inb_S512x2048_S512x128_0_384,
   codePiece m h x0 256 inb_S512x2048_S512x128_0_256,
   codePiece m h x0 128 inb_S512x2048_S512x128_0_128,
   codePiece m h x0 0 inb_S512x2048_S512x128_0_0]

/-- The sixteen pieces of dequantised codes. -/
def deqList : List (View.Piece (Elt F) S512x2048 .bf16) :=
  [deqPiece m h x0 1920 inb_S512x2048_S512x128_0_1920,
   deqPiece m h x0 1792 inb_S512x2048_S512x128_0_1792,
   deqPiece m h x0 1664 inb_S512x2048_S512x128_0_1664,
   deqPiece m h x0 1536 inb_S512x2048_S512x128_0_1536,
   deqPiece m h x0 1408 inb_S512x2048_S512x128_0_1408,
   deqPiece m h x0 1280 inb_S512x2048_S512x128_0_1280,
   deqPiece m h x0 1152 inb_S512x2048_S512x128_0_1152,
   deqPiece m h x0 1024 inb_S512x2048_S512x128_0_1024,
   deqPiece m h x0 896 inb_S512x2048_S512x128_0_896,
   deqPiece m h x0 768 inb_S512x2048_S512x128_0_768,
   deqPiece m h x0 640 inb_S512x2048_S512x128_0_640,
   deqPiece m h x0 512 inb_S512x2048_S512x128_0_512,
   deqPiece m h x0 384 inb_S512x2048_S512x128_0_384,
   deqPiece m h x0 256 inb_S512x2048_S512x128_0_256,
   deqPiece m h x0 128 inb_S512x2048_S512x128_0_128,
   deqPiece m h x0 0 inb_S512x2048_S512x128_0_0]

theorem slab_inb (c : Fin 16) : ∀ a, (![0, 128 * c.val] : Fin 2 → ℕ) a + (![512, 128] : Fin 2 → ℕ) a ≤ S512x2048.size a := by
  intro a
  match a with
  | ⟨0, _⟩ => exact Nat.le_refl 512
  | ⟨1, _⟩ => show 128 * c.val + 128 ≤ 2048; omega

/-- The scale bytes of the sixteen chunks in one array. -/
def bytes : IVec S512x128 32 := packed fun c => slab m h x0 (128 * c.val) (slab_inb c)

variable (m2 : Memref sig .tc .vmem S2048x2304 .fp8e4m3) (h2 : m2.IsWhole) (x1 : Vec F S2048x2304 .fp8e4m3)
variable (m3 : Memref sig .tc .vmem S64x2304 .i8) (h3 : m3.IsWhole) (x2 : Vec F S64x2304 .i8)

/-- The scales of the weights as the body loads and decodes them. -/
abbrev scalesW : FVec F S64x2304 .bf16 := k0_pay1
  (View.readAt (Elt F) m3.view (Rect.unit ![0, 0] S64x2304.size inb_S64x2304_S64x2304_0_0).toLoadRect (h3.unread x2))

/-- The 32 rows of weights from row `k` on times row `g` of their scales. -/
def weightRows (g k : ℕ) (inb : ∀ a, (![k, 0] : Fin 2 → ℕ) a + (![32, 2304] : Fin 2 → ℕ) a ≤ S2048x2304.size a)
    (sl : Shape.Slices S64x2304 ![g, 0] S1x2304) : Vec F S32x2304 .bf16 :=
  shapeCast S32x2304 (mulf
    (extf .bf16 (View.readAt (Elt F) m2.view (Rect.unit (s := S2048x2304) ![k, 0] ![32, 2304] inb).toLoadRect (h2.unread x1)) bitsLt_fp8e4m3_bf16)
    (broadcastTo S32x2304 (extractStridedSlice S1x2304 ![g, 0] (scalesW m3 h3 x2) sl) broadcasts_S1x2304_S32x2304))
    shapeCasts_S32x2304_S32x2304

/-- The stored piece of scaled weights at row `k`. -/
def weightPiece (g k : ℕ) (inb : ∀ a, (![k, 0] : Fin 2 → ℕ) a + (![32, 2304] : Fin 2 → ℕ) a ≤ S2048x2304.size a)
    (sl : Shape.Slices S64x2304 ![g, 0] S1x2304) : View.Piece (Elt F) S2048x2304 .bf16 :=
  ⟨Rect.unit (s := S2048x2304) ![k, 0] ![32, 2304] inb, weightRows m2 h2 x1 m3 h3 x2 g k inb sl⟩

/-- The sixty-four pieces of scaled weights. -/
def weightList : List (View.Piece (Elt F) S2048x2304 .bf16) :=
  [weightPiece m2 h2 x1 m3 h3 x2 63 2016 inb_S2048x2304_S32x2304_2016_0 slices_S64x2304_o63_0_S1x2304,
   weightPiece m2 h2 x1 m3 h3 x2 62 1984 inb_S2048x2304_S32x2304_1984_0 slices_S64x2304_o62_0_S1x2304,
   weightPiece m2 h2 x1 m3 h3 x2 61 1952 inb_S2048x2304_S32x2304_1952_0 slices_S64x2304_o61_0_S1x2304,
   weightPiece m2 h2 x1 m3 h3 x2 60 1920 inb_S2048x2304_S32x2304_1920_0 slices_S64x2304_o60_0_S1x2304,
   weightPiece m2 h2 x1 m3 h3 x2 59 1888 inb_S2048x2304_S32x2304_1888_0 slices_S64x2304_o59_0_S1x2304,
   weightPiece m2 h2 x1 m3 h3 x2 58 1856 inb_S2048x2304_S32x2304_1856_0 slices_S64x2304_o58_0_S1x2304,
   weightPiece m2 h2 x1 m3 h3 x2 57 1824 inb_S2048x2304_S32x2304_1824_0 slices_S64x2304_o57_0_S1x2304,
   weightPiece m2 h2 x1 m3 h3 x2 56 1792 inb_S2048x2304_S32x2304_1792_0 slices_S64x2304_o56_0_S1x2304,
   weightPiece m2 h2 x1 m3 h3 x2 55 1760 inb_S2048x2304_S32x2304_1760_0 slices_S64x2304_o55_0_S1x2304,
   weightPiece m2 h2 x1 m3 h3 x2 54 1728 inb_S2048x2304_S32x2304_1728_0 slices_S64x2304_o54_0_S1x2304,
   weightPiece m2 h2 x1 m3 h3 x2 53 1696 inb_S2048x2304_S32x2304_1696_0 slices_S64x2304_o53_0_S1x2304,
   weightPiece m2 h2 x1 m3 h3 x2 52 1664 inb_S2048x2304_S32x2304_1664_0 slices_S64x2304_o52_0_S1x2304,
   weightPiece m2 h2 x1 m3 h3 x2 51 1632 inb_S2048x2304_S32x2304_1632_0 slices_S64x2304_o51_0_S1x2304,
   weightPiece m2 h2 x1 m3 h3 x2 50 1600 inb_S2048x2304_S32x2304_1600_0 slices_S64x2304_o50_0_S1x2304,
   weightPiece m2 h2 x1 m3 h3 x2 49 1568 inb_S2048x2304_S32x2304_1568_0 slices_S64x2304_o49_0_S1x2304,
   weightPiece m2 h2 x1 m3 h3 x2 48 1536 inb_S2048x2304_S32x2304_1536_0 slices_S64x2304_o48_0_S1x2304,
   weightPiece m2 h2 x1 m3 h3 x2 47 1504 inb_S2048x2304_S32x2304_1504_0 slices_S64x2304_o47_0_S1x2304,
   weightPiece m2 h2 x1 m3 h3 x2 46 1472 inb_S2048x2304_S32x2304_1472_0 slices_S64x2304_o46_0_S1x2304,
   weightPiece m2 h2 x1 m3 h3 x2 45 1440 inb_S2048x2304_S32x2304_1440_0 slices_S64x2304_o45_0_S1x2304,
   weightPiece m2 h2 x1 m3 h3 x2 44 1408 inb_S2048x2304_S32x2304_1408_0 slices_S64x2304_o44_0_S1x2304,
   weightPiece m2 h2 x1 m3 h3 x2 43 1376 inb_S2048x2304_S32x2304_1376_0 slices_S64x2304_o43_0_S1x2304,
   weightPiece m2 h2 x1 m3 h3 x2 42 1344 inb_S2048x2304_S32x2304_1344_0 slices_S64x2304_o42_0_S1x2304,
   weightPiece m2 h2 x1 m3 h3 x2 41 1312 inb_S2048x2304_S32x2304_1312_0 slices_S64x2304_o41_0_S1x2304,
   weightPiece m2 h2 x1 m3 h3 x2 40 1280 inb_S2048x2304_S32x2304_1280_0 slices_S64x2304_o40_0_S1x2304,
   weightPiece m2 h2 x1 m3 h3 x2 39 1248 inb_S2048x2304_S32x2304_1248_0 slices_S64x2304_o39_0_S1x2304,
   weightPiece m2 h2 x1 m3 h3 x2 38 1216 inb_S2048x2304_S32x2304_1216_0 slices_S64x2304_o38_0_S1x2304,
   weightPiece m2 h2 x1 m3 h3 x2 37 1184 inb_S2048x2304_S32x2304_1184_0 slices_S64x2304_o37_0_S1x2304,
   weightPiece m2 h2 x1 m3 h3 x2 36 1152 inb_S2048x2304_S32x2304_1152_0 slices_S64x2304_o36_0_S1x2304,
   weightPiece m2 h2 x1 m3 h3 x2 35 1120 inb_S2048x2304_S32x2304_1120_0 slices_S64x2304_o35_0_S1x2304,
   weightPiece m2 h2 x1 m3 h3 x2 34 1088 inb_S2048x2304_S32x2304_1088_0 slices_S64x2304_o34_0_S1x2304,
   weightPiece m2 h2 x1 m3 h3 x2 33 1056 inb_S2048x2304_S32x2304_1056_0 slices_S64x2304_o33_0_S1x2304,
   weightPiece m2 h2 x1 m3 h3 x2 32 1024 inb_S2048x2304_S32x2304_1024_0 slices_S64x2304_o32_0_S1x2304,
   weightPiece m2 h2 x1 m3 h3 x2 31 992 inb_S2048x2304_S32x2304_992_0 slices_S64x2304_o31_0_S1x2304,
   weightPiece m2 h2 x1 m3 h3 x2 30 960 inb_S2048x2304_S32x2304_960_0 slices_S64x2304_o30_0_S1x2304,
   weightPiece m2 h2 x1 m3 h3 x2 29 928 inb_S2048x2304_S32x2304_928_0 slices_S64x2304_o29_0_S1x2304,
   weightPiece m2 h2 x1 m3 h3 x2 28 896 inb_S2048x2304_S32x2304_896_0 slices_S64x2304_o28_0_S1x2304,
   weightPiece m2 h2 x1 m3 h3 x2 27 864 inb_S2048x2304_S32x2304_864_0 slices_S64x2304_o27_0_S1x2304,
   weightPiece m2 h2 x1 m3 h3 x2 26 832 inb_S2048x2304_S32x2304_832_0 slices_S64x2304_o26_0_S1x2304,
   weightPiece m2 h2 x1 m3 h3 x2 25 800 inb_S2048x2304_S32x2304_800_0 slices_S64x2304_o25_0_S1x2304,
   weightPiece m2 h2 x1 m3 h3 x2 24 768 inb_S2048x2304_S32x2304_768_0 slices_S64x2304_o24_0_S1x2304,
   weightPiece m2 h2 x1 m3 h3 x2 23 736 inb_S2048x2304_S32x2304_736_0 slices_S64x2304_o23_0_S1x2304,
   weightPiece m2 h2 x1 m3 h3 x2 22 704 inb_S2048x2304_S32x2304_704_0 slices_S64x2304_o22_0_S1x2304,
   weightPiece m2 h2 x1 m3 h3 x2 21 672 inb_S2048x2304_S32x2304_672_0 slices_S64x2304_o21_0_S1x2304,
   weightPiece m2 h2 x1 m3 h3 x2 20 640 inb_S2048x2304_S32x2304_640_0 slices_S64x2304_o20_0_S1x2304,
   weightPiece m2 h2 x1 m3 h3 x2 19 608 inb_S2048x2304_S32x2304_608_0 slices_S64x2304_o19_0_S1x2304,
   weightPiece m2 h2 x1 m3 h3 x2 18 576 inb_S2048x2304_S32x2304_576_0 slices_S64x2304_o18_0_S1x2304,
   weightPiece m2 h2 x1 m3 h3 x2 17 544 inb_S2048x2304_S32x2304_544_0 slices_S64x2304_o17_0_S1x2304,
   weightPiece m2 h2 x1 m3 h3 x2 16 512 inb_S2048x2304_S32x2304_512_0 slices_S64x2304_o16_0_S1x2304,
   weightPiece m2 h2 x1 m3 h3 x2 15 480 inb_S2048x2304_S32x2304_480_0 slices_S64x2304_o15_0_S1x2304,
   weightPiece m2 h2 x1 m3 h3 x2 14 448 inb_S2048x2304_S32x2304_448_0 slices_S64x2304_o14_0_S1x2304,
   weightPiece m2 h2 x1 m3 h3 x2 13 416 inb_S2048x2304_S32x2304_416_0 slices_S64x2304_o13_0_S1x2304,
   weightPiece m2 h2 x1 m3 h3 x2 12 384 inb_S2048x2304_S32x2304_384_0 slices_S64x2304_o12_0_S1x2304,
   weightPiece m2 h2 x1 m3 h3 x2 11 352 inb_S2048x2304_S32x2304_352_0 slices_S64x2304_o11_0_S1x2304,
   weightPiece m2 h2 x1 m3 h3 x2 10 320 inb_S2048x2304_S32x2304_320_0 slices_S64x2304_o10_0_S1x2304,
   weightPiece m2 h2 x1 m3 h3 x2 9 288 inb_S2048x2304_S32x2304_288_0 slices_S64x2304_o9_0_S1x2304,
   weightPiece m2 h2 x1 m3 h3 x2 8 256 inb_S2048x2304_S32x2304_256_0 slices_S64x2304_o8_0_S1x2304,
   weightPiece m2 h2 x1 m3 h3 x2 7 224 inb_S2048x2304_S32x2304_224_0 slices_S64x2304_o7_0_S1x2304,
   weightPiece m2 h2 x1 m3 h3 x2 6 192 inb_S2048x2304_S32x2304_192_0 slices_S64x2304_o6_0_S1x2304,
   weightPiece m2 h2 x1 m3 h3 x2 5 160 inb_S2048x2304_S32x2304_160_0 slices_S64x2304_o5_0_S1x2304,
   weightPiece m2 h2 x1 m3 h3 x2 4 128 inb_S2048x2304_S32x2304_128_0 slices_S64x2304_o4_0_S1x2304,
   weightPiece m2 h2 x1 m3 h3 x2 3 96 inb_S2048x2304_S32x2304_96_0 slices_S64x2304_o3_0_S1x2304,
   weightPiece m2 h2 x1 m3 h3 x2 2 64 inb_S2048x2304_S32x2304_64_0 slices_S64x2304_o2_0_S1x2304,
   weightPiece m2 h2 x1 m3 h3 x2 1 32 inb_S2048x2304_S32x2304_32_0 slices_S64x2304_o1_0_S1x2304,
   weightPiece m2 h2 x1 m3 h3 x2 0 0 inb_S2048x2304_S32x2304_0_0 slices_S64x2304_o0_0_S1x2304]

end Read

/-! ## The runs' pieces are these -/

section Runs

variable {F : FTy → Type} [FloatOps F]
variable (c : Dev nD) (i : grid0.Coords) (arg1 : Memref sig .tc .vmem S512x2048 .bf16) (harg1 : arg1.IsWhole) (arg2 : Memref sig .tc .vmem S2048x2304 .fp8e4m3) (harg2 : arg2.IsWhole) (arg3 : Memref sig .tc .vmem S64x2304 .i8) (harg3 : arg3.IsWhole)
  (arg4 : Memref sig .tc .vmem S512x2304 .bf16) (harg4 : arg4.IsWhole) (arg5 : Memref sig .tc .vmem S512x2304 .bf16) (harg5 : arg5.IsWhole) (arg6 : Memref sig .tc .vmem S512x2048 .fp8e4m3) (harg6 : arg6.IsWhole)
  (arg7 : Memref sig .tc .vmem S512x64 .i8) (harg7 : arg7.IsWhole) (arg8 : Memref sig .tc .vmem S2048x2304 .bf16) (harg8 : arg8.IsWhole) (arg9 : Memref sig .tc .vmem S512x2048 .bf16) (harg9 : arg9.IsWhole)
  (x0 : Vec F S512x2048 .bf16) (x1 : Vec F S2048x2304 .fp8e4m3) (x2 : Vec F S64x2304 .i8) (x3 : Vec F S512x2304 .bf16) (xs0 : Vec F S2048x2304 .bf16)

theorem codes_A (hc0 : cond0_0 i) : (kernelRun0_A c i arg1 harg1 arg2 harg2 arg3 harg3 arg4 harg4 arg5 harg5 arg6 harg6 arg7 harg7 arg8 harg8 arg9 harg9 hc0 x0 x1 x2 x3).2.1 = codeList arg1 harg1 x0 := rfl

theorem codes_B (hc0 : ¬cond0_0 i) : (kernelRun0_B c i arg1 harg1 arg2 harg2 arg3 harg3 arg4 harg4 arg5 harg5 arg6 harg6 arg7 harg7 arg8 harg8 arg9 harg9 hc0 x0 x1 x2 x3 xs0).2.1 = codeList arg1 harg1 x0 := rfl

theorem deq_A : kernelRun0_A.sl.HS1_16 c arg1 harg1 x0 = deqList arg1 harg1 x0 := rfl

theorem deq_B : kernelRun0_B.sl.HS1_16 c arg1 harg1 x0 = deqList arg1 harg1 x0 := rfl

theorem weights_A : kernelRun0_A.sl.HS0_64 c arg2 harg2 arg3 harg3 x1 x2 = weightList arg2 harg2 x1 arg3 harg3 x2 := rfl

theorem weights_A' (hc0 : cond0_0 i) : (kernelRun0_A c i arg1 harg1 arg2 harg2 arg3 harg3 arg4 harg4 arg5 harg5 arg6 harg6 arg7 harg7 arg8 harg8 arg9 harg9 hc0 x0 x1 x2 x3).2.2.2.1 = weightList arg2 harg2 x1 arg3 harg3 x2 := rfl

theorem bytes_A : kernelRun0_A.sl.r_161 c arg1 harg1 x0 = bytes arg1 harg1 x0 := rfl

theorem bytes_B : kernelRun0_B.sl.r_147 c arg1 harg1 x0 = bytes arg1 harg1 x0 := rfl

theorem scales_A (hc0 : cond0_0 i) : (kernelRun0_A c i arg1 harg1 arg2 harg2 arg3 harg3 arg4 harg4 arg5 harg5 arg6 harg6 arg7 harg7 arg8 harg8 arg9 harg9 hc0 x0 x1 x2 x3).2.2.1 =
    [⟨Rect.unit ![0, 0] S512x64.size inb_S512x64_S512x64_0_0, k0_pay288 (F := F) (bytes arg1 harg1 x0) (iota Kind.tc S128x64 32 [0] iota_S128x64_d0_w32)
      (iota Kind.tc S128x64 32 [1] iota_S128x64_d1_w32) k0_pay286 (32#32) k0_pay287⟩] := rfl

theorem scales_B (hc0 : ¬cond0_0 i) : (kernelRun0_B c i arg1 harg1 arg2 harg2 arg3 harg3 arg4 harg4 arg5 harg5 arg6 harg6 arg7 harg7 arg8 harg8 arg9 harg9 hc0 x0 x1 x2 x3 xs0).2.2.1 =
    [⟨Rect.unit ![0, 0] S512x64.size inb_S512x64_S512x64_0_0, k0_pay288 (F := F) (bytes arg1 harg1 x0) (iota Kind.tc S128x64 32 [0] iota_S128x64_d0_w32)
      (iota Kind.tc S128x64 32 [1] iota_S128x64_d1_w32) k0_pay286 (32#32) k0_pay287⟩] := rfl

theorem product_A (hc0 : cond0_0 i) : (kernelRun0_A c i arg1 harg1 arg2 harg2 arg3 harg3 arg4 harg4 arg5 harg5 arg6 harg6 arg7 harg7 arg8 harg8 arg9 harg9 hc0 x0 x1 x2 x3).1 =
    [⟨Rect.unit ![0, 0] S512x2304.size inb_S512x2304_S512x2304_0_0, k0_pay289
      (arg9.view.readCov (deqList arg1 harg1 x0) (Rect.unit ![0, 0] S512x2048.size inb_S512x2048_S512x2048_0_0).toLoadRect)
      (arg8.view.readCov (weightList arg2 harg2 x1 arg3 harg3 x2) (Rect.unit ![0, 0] S2048x2304.size inb_S2048x2304_S2048x2304_0_0).toLoadRect)
      (View.readAt (Elt F) arg4.view (Rect.unit ![0, 0] S512x2304.size inb_S512x2304_S512x2304_0_0).toLoadRect (harg4.unread x3))⟩] := rfl

theorem product_B (hc0 : ¬cond0_0 i) : (kernelRun0_B c i arg1 harg1 arg2 harg2 arg3 harg3 arg4 harg4 arg5 harg5 arg6 harg6 arg7 harg7 arg8 harg8 arg9 harg9 hc0 x0 x1 x2 x3 xs0).1 =
    [⟨Rect.unit ![0, 0] S512x2304.size inb_S512x2304_S512x2304_0_0, k0_pay289
      (arg9.view.readCov (deqList arg1 harg1 x0) (Rect.unit ![0, 0] S512x2048.size inb_S512x2048_S512x2048_0_0).toLoadRect)
      (View.readAt (Elt F) arg8.view (Rect.unit ![0, 0] S2048x2304.size inb_S2048x2304_S2048x2304_0_0).toLoadRect (harg8.unread xs0))
      (View.readAt (Elt F) arg4.view (Rect.unit ![0, 0] S512x2304.size inb_S512x2304_S512x2304_0_0).toLoadRect (harg4.unread x3))⟩] := rfl

end Runs

end Cert.Body
end
end
-- ==== Proof.BodyVal.lean ====
module
public import proofs.«01_k».proof.Proof.Body
public import Idealize.ShloMosaic.Lib.WholeRead
public import Idealize.ShloMosaic.Lib.VecWindow

/-! What one run of the kernel body leaves in its buffers.

The pieces of `Body.lean` tile their buffers, and each agrees with one function of the buffer's index: the buffers hold
`CodesK`, `DeqK` and `WdK` at every index.  The scale bytes are `ScalesK`, and the product, `YK`, is a sum over the whole
depth of 2048. -/

set_option maxRecDepth 16384

@[expose] public section
noncomputable section

open Idealize.ShloMosaic Idealize.ShloMosaic.TcCoe Idealize.SL.Sem
open Cert.KernelIdeal Cert.KernelIdeal.Gen

namespace Cert.Body

open Cert.Chunk

/-- The quotient of the block of 32 columns that column `k` of row `r` lies in. -/
def blockQuot (x0 : Vec Ideal S512x2048 .bf16) (r : Fin 512) (k : Fin 2048) : EReal :=
  Mx.quot fun i : Fin 32 => x0 (ix2 r ⟨k / 32 * 32 + i, by omega⟩)

/-- The codes of a block of 512 rows. -/
def CodesK (x0 : Vec Ideal S512x2048 .bf16) : Vec Ideal S512x2048 .fp8e4m3 :=
  fun y => Mx.code (x0 y) (blockQuot x0 (y 0) (y 1))

/-- The dequantised codes. -/
def DeqK (x0 : Vec Ideal S512x2048 .bf16) : Vec Ideal S512x2048 .bf16 :=
  fun y => Mx.code (x0 y) (blockQuot x0 (y 0) (y 1)) * Mx.p2 (Mx.byte (blockQuot x0 (y 0) (y 1)))

/-- The scale bytes. -/
def ScalesK (x0 : Vec Ideal S512x2048 .bf16) : Vec Ideal S512x64 .i8 :=
  fun y => BitVec.setWidth 8 (Mx.byte (Mx.quot fun i : Fin 32 => x0 (ix2 (y 0) ⟨(y 1).val * 32 + i, by have h : (y 1).val < 64 := (y 1).isLt; omega⟩)))

/-- The scaled weights. -/
def WdK (x1 : Vec Ideal S2048x2304 .fp8e4m3) (x2 : Vec Ideal S64x2304 .i8) : Vec Ideal S2048x2304 .bf16 :=
  fun y => x1 y * Mx.p2 (BitVec.setWidth 32 (x2 (ix2 ⟨(y 0).val / 32, by have h : (y 0).val < 2048 := (y 0).isLt; omega⟩ (y 1))))

/-- The product. -/
def YK (x0 : Vec Ideal S512x2048 .bf16) (w : Vec Ideal S2048x2304 .bf16) (x3 : Vec Ideal S512x2304 .bf16) : Vec Ideal S512x2304 .bf16 :=
  fun y => ∑ k : Fin 2048, DeqK x0 (ix2 (y 0) k) * w (ix2 k (y 1)) + x3 y

theorem ix2_eta {a b : ℕ} (y : Shape.Idx (⟨2, ![a, b]⟩ : Shape)) : y = ix2 (y 0) (y 1) := by
  funext k
  match k with
  | ⟨0, _⟩ => rfl
  | ⟨1, _⟩ => rfl

section Read

variable (m : Memref sig .tc .vmem S512x2048 .bf16) (h : m.IsWhole) (x0 : Vec Ideal S512x2048 .bf16)

theorem slab_apply (k : ℕ) (inb) (r : Fin 512) (l : Fin 128) (hk : k + 128 ≤ 2048) :
    slab m h x0 k inb (ix2 r l) = x0 (ix2 r ⟨k + l, by omega⟩) := by
  unfold slab
  rw [Memref.IsWhole.readAt_unread]
  congr 1
  funext a
  match a with
  | ⟨0, _⟩ => exact Fin.ext (by show 0 + 1 * r.val = r.val; omega)
  | ⟨1, _⟩ => exact Fin.ext (by show k + 1 * l.val = k + l.val; omega)

theorem laneQuot_slab (k : ℕ) (inb) (r : Fin 512) (l : Fin 128) (hk : k + 128 ≤ 2048) (hd : k % 32 = 0) :
    laneQuot (val (slab m h x0 k inb)) r l = blockQuot x0 r ⟨k + l, by omega⟩ := by
  unfold laneQuot blockQuot
  congr 1
  funext i
  rw [val_apply, slab_apply m h x0 k inb _ _ hk]
  congr 2
  exact Fin.ext (by show k + (l.val / 32 * 32 + i.val) = (k + l.val) / 32 * 32 + i.val; omega)

theorem emb_eq (k : ℕ) (inb : ∀ a, (![0, k] : Fin 2 → ℕ) a + (![512, 128] : Fin 2 → ℕ) a ≤ S512x2048.size a) (r : Fin 512) (l : Fin 128) (hk : k + 128 ≤ 2048) :
    (Rect.unit (s := S512x2048) ![0, k] ![512, 128] inb).emb (ix2 r l) = ix2 r ⟨k + l, by omega⟩ := by
  funext a
  match a with
  | ⟨0, _⟩ => exact Fin.ext (by show 0 + 1 * r.val = r.val; omega)
  | ⟨1, _⟩ => exact Fin.ext (by show k + 1 * l.val = k + l.val; omega)

theorem codePiece_spec (k : ℕ) (inb) (hk : k + 128 ≤ 2048 ∧ k % 32 = 0) (x : (codePiece m h x0 k inb).1.shape.Idx) :
    (codePiece m h x0 k inb).2 x = CodesK x0 ((codePiece m h x0 k inb).1.emb x) := by
  obtain ⟨r, l, rfl⟩ : ∃ (r : Fin 512) (l : Fin 128), x = ix2 r l := ⟨x 0, x 1, ix2_eta (a := 512) (b := 128) x⟩
  show codes (val (slab m h x0 k inb)) (ix2 r l) = CodesK x0 ((Rect.unit (s := S512x2048) ![0, k] ![512, 128] inb).emb (ix2 r l))
  rw [emb_eq k inb r l hk.1, codes_apply, laneQuot_slab m h x0 k inb r l hk.1 hk.2, val_apply, slab_apply m h x0 k inb r l hk.1]
  rfl

theorem deqPiece_spec (k : ℕ) (inb) (hk : k + 128 ≤ 2048 ∧ k % 32 = 0) (x : (deqPiece m h x0 k inb).1.shape.Idx) :
    (deqPiece m h x0 k inb).2 x = DeqK x0 ((deqPiece m h x0 k inb).1.emb x) := by
  obtain ⟨r, l, rfl⟩ : ∃ (r : Fin 512) (l : Fin 128), x = ix2 r l := ⟨x 0, x 1, ix2_eta (a := 512) (b := 128) x⟩
  show deq (val (slab m h x0 k inb)) (ix2 r l) = DeqK x0 ((Rect.unit (s := S512x2048) ![0, k] ![512, 128] inb).emb (ix2 r l))
  rw [emb_eq k inb r l hk.1, deq_apply, laneQuot_slab m h x0 k inb r l hk.1 hk.2, val_apply, slab_apply m h x0 k inb r l hk.1]
  rfl

theorem codeList_spec : ∀ p ∈ codeList m h x0, ∀ x : p.1.shape.Idx, p.2 x = CodesK x0 (p.1.emb x) := by
  unfold codeList
  simp only [List.forall_mem_cons]
  repeat' apply And.intro
  all_goals first
    | exact codePiece_spec m h x0 _ _ (by norm_num)
    | (intro p hp; exact absurd hp List.not_mem_nil)

theorem deqList_spec : ∀ p ∈ deqList m h x0, ∀ x : p.1.shape.Idx, p.2 x = DeqK x0 (p.1.emb x) := by
  unfold deqList
  simp only [List.forall_mem_cons]
  repeat' apply And.intro
  all_goals first
    | exact deqPiece_spec m h x0 _ _ (by norm_num)
    | (intro p hp; exact absurd hp List.not_mem_nil)

theorem codeList_cover (y : S512x2048.Idx) : ∃ p ∈ codeList m h x0, y ∈ p.1.set :=
  View.cover_of_tiledL (codeList m h x0) ![512, 128] (by sl_kernel_rfl) y

theorem deqList_cover (y : S512x2048.Idx) : ∃ p ∈ deqList m h x0, y ∈ p.1.set :=
  View.cover_of_tiledL (deqList m h x0) ![512, 128] (by sl_kernel_rfl) y

/-- The packed array holds the byte of block `n` at lane `32 (n mod 4) + n / 4`. -/
theorem bytes_apply (r : Fin 512) (n : Fin 64) :
    bytes m h x0 (ix2 r ⟨32 * (n % 4) + n / 4, by omega⟩) = Mx.byte (Mx.quot fun i : Fin 32 => x0 (ix2 r ⟨n * 32 + i, by omega⟩)) := by
  unfold bytes
  rw [packed_apply _ r _ (⟨n / 4, by omega⟩ : Fin 16) (by simp only []; omega)]
  rw [laneQuot_slab m h x0 _ _ r _ (by simp only []; omega) (by simp only []; omega)]
  unfold blockQuot
  congr 2
  funext i
  congr 2
  exact Fin.ext (by show (128 * (n.val / 4) + (32 * (n.val % 4) + n.val / 4)) / 32 * 32 + i.val = n.val * 32 + i.val; omega)

end Read

section Weights

variable (m2 : Memref sig .tc .vmem S2048x2304 .fp8e4m3) (h2 : m2.IsWhole) (x1 : Vec Ideal S2048x2304 .fp8e4m3)
variable (m3 : Memref sig .tc .vmem S64x2304 .i8) (h3 : m3.IsWhole) (x2 : Vec Ideal S64x2304 .i8)

theorem hz : (![0, 0] : Fin 2 → ℕ) = fun _ => 0 := by decide

theorem rows_apply (k : ℕ) (inb : ∀ a, (![k, 0] : Fin 2 → ℕ) a + (![32, 2304] : Fin 2 → ℕ) a ≤ S2048x2304.size a) (hk : k + 32 ≤ 2048) (r : Fin 32) (n : Fin 2304) :
    View.readAt (Elt Ideal) m2.view (Rect.unit (s := S2048x2304) ![k, 0] ![32, 2304] inb).toLoadRect (h2.unread x1) (ix2 r n)
      = x1 (ix2 ⟨k + r, by omega⟩ n) := by
  rw [Memref.IsWhole.readAt_unread]
  congr 1
  funext a
  match a with
  | ⟨0, _⟩ => exact Fin.ext (by show k + 1 * r.val = k + r.val; omega)
  | ⟨1, _⟩ => exact Fin.ext (by show 0 + 1 * n.val = n.val; omega)

theorem scalesW_eq : (View.readAt (Elt Ideal) m3.view (Rect.unit ![0, 0] S64x2304.size inb_S64x2304_S64x2304_0_0).toLoadRect (h3.unread x2)) = x2 := by
  funext y
  rw [Memref.IsWhole.readAt_unread]
  congr 1
  funext a
  match a with
  | ⟨0, _⟩ => exact Fin.ext (by show 0 + 1 * (y 0).val = (y 0).val; omega)
  | ⟨1, _⟩ => exact Fin.ext (by show 0 + 1 * (y 1).val = (y 1).val; omega)

theorem weightRows_apply (g k : ℕ) (inb) (sl) (hk : k + 32 ≤ 2048) (hg : g < 64) (r : Fin 32) (n : Fin 2304) :
    weightRows m2 h2 x1 m3 h3 x2 g k inb sl (ix2 r n) = x1 (ix2 ⟨k + r, by omega⟩ n) * Mx.p2 (BitVec.setWidth 32 (x2 (ix2 ⟨g, hg⟩ n))) := by
  rw [← wscales_apply, ← rows_apply m2 h2 x1 k inb hk r n]
  unfold weightRows scalesW
  rw [scalesW_eq]
  generalize View.readAt (Elt Ideal) m2.view (Rect.unit (s := S2048x2304) ![k, 0] ![32, 2304] inb).toLoadRect (h2.unread x1) = w
  generalize k0_pay1 (F := Ideal) x2 = s
  have e : extractStridedSlice S1x2304 ![g, 0] s sl (ix2 0 n) = s (ix2 ⟨g, hg⟩ n) := by
    show s _ = s _
    congr 1
    funext a
    match a with
    | ⟨0, _⟩ => exact Fin.ext (by show g + 0 = g; omega)
    | ⟨1, _⟩ => exact Fin.ext (by show 0 + n.val = n.val; omega)
  rw [← e]
  pointwise

theorem weightPiece_spec (g k : ℕ) (inb) (sl) (hk : k + 32 ≤ 2048 ∧ g < 64 ∧ k = 32 * g) (x : (weightPiece m2 h2 x1 m3 h3 x2 g k inb sl).1.shape.Idx) :
    (weightPiece m2 h2 x1 m3 h3 x2 g k inb sl).2 x = WdK x1 x2 ((weightPiece m2 h2 x1 m3 h3 x2 g k inb sl).1.emb x) := by
  obtain ⟨r, l, rfl⟩ : ∃ (r : Fin 32) (l : Fin 2304), x = ix2 r l := ⟨x 0, x 1, ix2_eta (a := 32) (b := 2304) x⟩
  show weightRows m2 h2 x1 m3 h3 x2 g k inb sl (ix2 r l) = WdK x1 x2 ((Rect.unit (s := S2048x2304) ![k, 0] ![32, 2304] inb).emb (ix2 r l))
  rw [weightRows_apply m2 h2 x1 m3 h3 x2 g k inb sl hk.1 hk.2.1 r l]
  have e : (Rect.unit (s := S2048x2304) ![k, 0] ![32, 2304] inb).emb (ix2 r l) = ix2 (⟨k + r, by omega⟩ : Fin 2048) l := by
    funext a
    match a with
    | ⟨0, _⟩ => exact Fin.ext (by show k + 1 * r.val = k + r.val; omega)
    | ⟨1, _⟩ => exact Fin.ext (by show 0 + 1 * l.val = l.val; omega)
  rw [e]
  unfold WdK
  congr 4
  congr 1
  exact Fin.ext (by show g = (k + r.val) / 32; omega)

theorem weightList_spec : ∀ p ∈ weightList m2 h2 x1 m3 h3 x2, ∀ x : p.1.shape.Idx, p.2 x = WdK x1 x2 (p.1.emb x) := by
  unfold weightList
  simp only [List.forall_mem_cons]
  repeat' apply And.intro
  all_goals first
    | exact weightPiece_spec m2 h2 x1 m3 h3 x2 _ _ _ _ (by norm_num)
    | (intro p hp; exact absurd hp List.not_mem_nil)

theorem weightList_cover (y : S2048x2304.Idx) : ∃ p ∈ weightList m2 h2 x1 m3 h3 x2, y ∈ p.1.set :=
  View.cover_of_tiledL (weightList m2 h2 x1 m3 h3 x2) ![32, 2304] (by sl_kernel_rfl) y

end Weights

/-! ## What each run leaves -/

section Outs

variable (c : Dev nD) (i : grid0.Coords) (arg1 : Memref sig .tc .vmem S512x2048 .bf16) (harg1 : arg1.IsWhole) (arg2 : Memref sig .tc .vmem S2048x2304 .fp8e4m3) (harg2 : arg2.IsWhole) (arg3 : Memref sig .tc .vmem S64x2304 .i8) (harg3 : arg3.IsWhole)
  (arg4 : Memref sig .tc .vmem S512x2304 .bf16) (harg4 : arg4.IsWhole) (arg5 : Memref sig .tc .vmem S512x2304 .bf16) (harg5 : arg5.IsWhole) (arg6 : Memref sig .tc .vmem S512x2048 .fp8e4m3) (harg6 : arg6.IsWhole)
  (arg7 : Memref sig .tc .vmem S512x64 .i8) (harg7 : arg7.IsWhole) (arg8 : Memref sig .tc .vmem S2048x2304 .bf16) (harg8 : arg8.IsWhole) (arg9 : Memref sig .tc .vmem S512x2048 .bf16) (harg9 : arg9.IsWhole)
  (x0 : Vec Ideal S512x2048 .bf16) (x1 : Vec Ideal S2048x2304 .fp8e4m3) (x2 : Vec Ideal S64x2304 .i8) (x3 : Vec Ideal S512x2304 .bf16) (xs0 : Vec Ideal S2048x2304 .bf16)

theorem deq_read : arg9.view.readCov (deqList arg1 harg1 x0) (Rect.unit ![0, 0] S512x2048.size inb_S512x2048_S512x2048_0_0).toLoadRect = DeqK x0 := by
  rw [View.readCov_eq_canon_ld _ _ _ (deqList_cover arg1 harg1 x0), View.ld_unit_zero hz]
  funext y
  exact View.canon_apply_of_pieces _ _ (deqList_spec arg1 harg1 x0) y (deqList_cover arg1 harg1 x0 y)

theorem weights_read : arg8.view.readCov (weightList arg2 harg2 x1 arg3 harg3 x2) (Rect.unit ![0, 0] S2048x2304.size inb_S2048x2304_S2048x2304_0_0).toLoadRect = WdK x1 x2 := by
  rw [View.readCov_eq_canon_ld _ _ _ (weightList_cover arg2 harg2 x1 arg3 harg3 x2), View.ld_unit_zero hz]
  funext y
  exact View.canon_apply_of_pieces _ _ (weightList_spec arg2 harg2 x1 arg3 harg3 x2) y (weightList_cover arg2 harg2 x1 arg3 harg3 x2 y)

theorem residual_read : View.readAt (Elt Ideal) arg4.view (Rect.unit ![0, 0] S512x2304.size inb_S512x2304_S512x2304_0_0).toLoadRect (harg4.unread x3) = x3 := by
  rw [View.readAt_eq_ld, harg4.read_unread, View.ld_unit_zero hz]

theorem scratch_read : View.readAt (Elt Ideal) arg8.view (Rect.unit ![0, 0] S2048x2304.size inb_S2048x2304_S2048x2304_0_0).toLoadRect (harg8.unread xs0) = xs0 := by
  rw [View.readAt_eq_ld, harg8.read_unread, View.ld_unit_zero hz]

/-- The codes after the first point's run, -/
theorem out_A_5 (hc0 : cond0_0 i) : out0_A_5 (F := Ideal) c i arg1 harg1 arg2 harg2 arg3 harg3 arg4 harg4 arg5 harg5 arg6 harg6 arg7 harg7 arg8 harg8 arg9 harg9 hc0 x0 x1 x2 x3 = CodesK x0 := by
  unfold out0_A_5
  rw [codes_A]
  funext y
  exact View.read_writes_apply_of_pieces _ _ _ _ (codeList_spec arg1 harg1 x0) y (codeList_cover arg1 harg1 x0 y)

/-- and after every other point's. -/
theorem out_B_5 (hc0 : ¬cond0_0 i) : out0_B_5 (F := Ideal) c i arg1 harg1 arg2 harg2 arg3 harg3 arg4 harg4 arg5 harg5 arg6 harg6 arg7 harg7 arg8 harg8 arg9 harg9 hc0 x0 x1 x2 x3 xs0 = CodesK x0 := by
  unfold out0_B_5
  rw [codes_B]
  funext y
  exact View.read_writes_apply_of_pieces _ _ _ _ (codeList_spec arg1 harg1 x0) y (codeList_cover arg1 harg1 x0 y)

/-- The scaled weights the first point's run leaves in the scratch. -/
theorem sout_A (hc0 : cond0_0 i) : sout0_A_0 (F := Ideal) c i arg1 harg1 arg2 harg2 arg3 harg3 arg4 harg4 arg5 harg5 arg6 harg6 arg7 harg7 arg8 harg8 arg9 harg9 hc0 x0 x1 x2 x3 = WdK x1 x2 := by
  unfold sout0_A_0
  rw [weights_A']
  funext y
  exact View.read_writes_apply_of_pieces _ _ _ _ (weightList_spec arg2 harg2 x1 arg3 harg3 x2) y (weightList_cover arg2 harg2 x1 arg3 harg3 x2 y)

theorem scales_payload : k0_pay288 (F := Ideal) (bytes arg1 harg1 x0) (iota Kind.tc S128x64 32 [0] iota_S128x64_d0_w32)
      (iota Kind.tc S128x64 32 [1] iota_S128x64_d1_w32) k0_pay286 (32#32) k0_pay287 = ScalesK x0 := by
  funext y
  obtain ⟨r, n, rfl⟩ : ∃ (r : Fin 512) (n : Fin 64), y = ix2 r n := ⟨y 0, y 1, ix2_eta (a := 512) (b := 64) y⟩
  rw [scales_apply, bytes_apply]
  rfl

theorem product_payload (w : Vec Ideal S2048x2304 .bf16) : k0_pay289 (F := Ideal) (DeqK x0) w x3 = YK x0 w x3 := by
  funext y
  obtain ⟨r, n, rfl⟩ : ∃ (r : Fin 512) (n : Fin 2304), y = ix2 r n := ⟨y 0, y 1, ix2_eta (a := 512) (b := 2304) y⟩
  rw [product_apply]
  rfl

theorem cover_scales (w : Vec Ideal S512x64 .i8) (y : S512x64.Idx) :
    ∃ p ∈ [(⟨Rect.unit ![0, 0] S512x64.size inb_S512x64_S512x64_0_0, w⟩ : View.Piece (Elt Ideal) S512x64 .i8)], y ∈ p.1.set :=
  ⟨_, List.mem_singleton_self _, View.mem_set_unit_zero hz inb_S512x64_S512x64_0_0 y⟩

theorem cover_product (w : Vec Ideal S512x2304 .bf16) (y : S512x2304.Idx) :
    ∃ p ∈ [(⟨Rect.unit ![0, 0] S512x2304.size inb_S512x2304_S512x2304_0_0, w⟩ : View.Piece (Elt Ideal) S512x2304 .bf16)], y ∈ p.1.set :=
  ⟨_, List.mem_singleton_self _, View.mem_set_unit_zero hz inb_S512x2304_S512x2304_0_0 y⟩

/-- The scale bytes, -/
theorem out_A_6 (hc0 : cond0_0 i) : out0_A_6 (F := Ideal) c i arg1 harg1 arg2 harg2 arg3 harg3 arg4 harg4 arg5 harg5 arg6 harg6 arg7 harg7 arg8 harg8 arg9 harg9 hc0 x0 x1 x2 x3 = ScalesK x0 := by
  unfold out0_A_6
  rw [scales_A, scales_payload, View.read_writes_eq_canon _ _ _ (cover_scales _), View.canon_unit_zero hz]

theorem out_B_6 (hc0 : ¬cond0_0 i) : out0_B_6 (F := Ideal) c i arg1 harg1 arg2 harg2 arg3 harg3 arg4 harg4 arg5 harg5 arg6 harg6 arg7 harg7 arg8 harg8 arg9 harg9 hc0 x0 x1 x2 x3 xs0 = ScalesK x0 := by
  unfold out0_B_6
  rw [scales_B, scales_payload, View.read_writes_eq_canon _ _ _ (cover_scales _), View.canon_unit_zero hz]

/-- and the product. -/
theorem out_A_4 (hc0 : cond0_0 i) : out0_A_4 (F := Ideal) c i arg1 harg1 arg2 harg2 arg3 harg3 arg4 harg4 arg5 harg5 arg6 harg6 arg7 harg7 arg8 harg8 arg9 harg9 hc0 x0 x1 x2 x3 = YK x0 (WdK x1 x2) x3 := by
  unfold out0_A_4
  rw [product_A, deq_read, weights_read, residual_read, product_payload, View.read_writes_eq_canon _ _ _ (cover_product _), View.canon_unit_zero hz]

theorem out_B_4 (hc0 : ¬cond0_0 i) : out0_B_4 (F := Ideal) c i arg1 harg1 arg2 harg2 arg3 harg3 arg4 harg4 arg5 harg5 arg6 harg6 arg7 harg7 arg8 harg8 arg9 harg9 hc0 x0 x1 x2 x3 xs0 = YK x0 xs0 x3 := by
  unfold out0_B_4
  rw [product_B, deq_read, scratch_read, residual_read, product_payload, View.read_writes_eq_canon _ _ _ (cover_product _), View.canon_unit_zero hz]

end Outs

end Cert.Body
end
end
-- ==== Proof.KernelVal.lean ====
module
public import proofs.«01_k».proof.Proof.BodyVal

/-! The kernel's three result arrays, index by index.

Grid point `t` works on rows `512 t … 512 t + 511`.  The scaled weights, stored by the first point, are the same at every later
one, so each point's product is over the same 2048 x 2304 array, and the three arrays after the run are `Codes`, `Scales` and
`Product` of the launch contents. -/

set_option maxRecDepth 16384

@[expose] public section
noncomputable section

open Idealize.ShloMosaic Idealize.ShloMosaic.TcCoe Idealize.SL.Sem
open Cert.KernelIdeal Cert.KernelIdeal.Gen

namespace Cert.Out

open Cert.Body

/-- The quotient of block `b` of row `r`. -/
def quotAt (X : Vec Ideal S6144x2048 .bf16) (r : Fin 6144) (b : Fin 64) : EReal :=
  Mx.quot fun i : Fin 32 => X (ix2 r ⟨b * 32 + i, by omega⟩)

/-- The block a column lies in. -/
def blockOf (k : Fin 2048) : Fin 64 := ⟨k / 32, by omega⟩

/-- The codes. -/
def Codes (X : Vec Ideal S6144x2048 .bf16) : Vec Ideal S6144x2048 .fp8e4m3 :=
  fun y => Mx.code (X y) (quotAt X (y 0) (blockOf (y 1)))

/-- The scale bytes. -/
def Scales (X : Vec Ideal S6144x2048 .bf16) : Vec Ideal S6144x64 .i8 :=
  fun y => BitVec.setWidth 8 (Mx.byte (quotAt X (y 0) (y 1)))

/-- The product: dequantised codes times scaled weights, and the residual. -/
def Product (X : Vec Ideal S6144x2048 .bf16) (W : Vec Ideal S2048x2304 .fp8e4m3) (S : Vec Ideal S64x2304 .i8)
    (R : Vec Ideal S6144x2304 .bf16) : Vec Ideal S6144x2304 .bf16 :=
  fun y => ∑ k : Fin 2048, (Codes X (ix2 (y 0) k) * Mx.p2 (Mx.byte (quotAt X (y 0) (blockOf k))))
    * (W (ix2 k (y 1)) * Mx.p2 (BitVec.setWidth 32 (S (ix2 (blockOf k) (y 1))))) + R y

variable (m : (ℓ : Loc nD τ sig) → Buf (Elt Ideal) ℓ) (c : Dev nD)

/-- The activations as a 6144 x 2048 array. -/
abbrev X : Vec Ideal S6144x2048 .bf16 := V m c main_v0
/-- The weight codes. -/
abbrev W : Vec Ideal S2048x2304 .fp8e4m3 := V m c main_arg1
/-- The weight scale bytes. -/
abbrev S : Vec Ideal S64x2304 .i8 := V m c main_arg2
/-- The residual as a 6144 x 2304 array. -/
abbrev R : Vec Ideal S6144x2304 .bf16 := V m c main_v1

/-! Which block of its array each window holds at point `t`. -/

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem lt_N (t : Fin cfg0.N) : t.val < 12 := lt_of_lt_of_eq t.isLt (show cfg0.N = 12 from N_0)

/-- Row `r` of point `t`. -/
def row (t : Fin cfg0.N) (r : Fin 512) : Fin 6144 := ⟨512 * t.val + r.val, by have := lt_N t; omega⟩

/-! What each input window holds at point `t`: its rows of the activations or the residual, or the whole array. -/

theorem iblk0 (t : Fin cfg0.N) (r : Fin 512) (k : Fin 2048) : (iblk m c 0 t : Vec Ideal S512x2048 .bf16) (ix2 r k) = X m c (ix2 (row t r) k) := by
  obtain ⟨e0, e1⟩ := index0 t
  show V m c main_v0 (((cfg0.win 0).blk t).view.emb (ix2 r k)) = _
  congr 1
  funext a
  match a with
  | ⟨0, _⟩ => exact Fin.ext (by show win0_0.index t (0 : Fin 2) * 512 + 1 * r.val = 512 * t.val + r.val; omega)
  | ⟨1, _⟩ => exact Fin.ext (by show win0_0.index t (1 : Fin 2) * 2048 + 1 * k.val = k.val; omega)

theorem iblk3 (t : Fin cfg0.N) (r : Fin 512) (n : Fin 2304) : (iblk m c 3 t : Vec Ideal S512x2304 .bf16) (ix2 r n) = R m c (ix2 (row t r) n) := by
  obtain ⟨e0, e1⟩ := index3 t
  show V m c main_v1 (((cfg0.win 3).blk t).view.emb (ix2 r n)) = _
  congr 1
  funext a
  match a with
  | ⟨0, _⟩ => exact Fin.ext (by show win0_3.index t (0 : Fin 2) * 512 + 1 * r.val = 512 * t.val + r.val; omega)
  | ⟨1, _⟩ => exact Fin.ext (by show win0_3.index t (1 : Fin 2) * 2304 + 1 * n.val = n.val; omega)

theorem iblk1 (t : Fin cfg0.N) : (iblk m c 1 t : Vec Ideal S2048x2304 .fp8e4m3) = W m c := by
  obtain ⟨e0, e1⟩ := index1 t
  funext y
  show V m c main_arg1 (((cfg0.win 1).blk t).view.emb y) = _
  congr 1
  funext a
  match a with
  | ⟨0, _⟩ => exact Fin.ext (by show win0_1.index t (0 : Fin 2) * 2048 + 1 * (y 0).val = (y 0).val; omega)
  | ⟨1, _⟩ => exact Fin.ext (by show win0_1.index t (1 : Fin 2) * 2304 + 1 * (y 1).val = (y 1).val; omega)

theorem iblk2 (t : Fin cfg0.N) : (iblk m c 2 t : Vec Ideal S64x2304 .i8) = S m c := by
  obtain ⟨e0, e1⟩ := index2 t
  funext y
  show V m c main_arg2 (((cfg0.win 2).blk t).view.emb y) = _
  congr 1
  funext a
  match a with
  | ⟨0, _⟩ => exact Fin.ext (by show win0_2.index t (0 : Fin 2) * 64 + 1 * (y 0).val = (y 0).val; omega)
  | ⟨1, _⟩ => exact Fin.ext (by show win0_2.index t (1 : Fin 2) * 2304 + 1 * (y 1).val = (y 1).val; omega)

theorem scratch_A (t : Fin cfg0.N) (h0 : t.val % 12 = 0) : (outsAt0 m c t.val t.isLt).2.2.2 = WdK (W m c) (S m c) := by
  rw [outsAt0_A m c t h0]
  dsimp only
  rw [sout_A, iblk1, iblk2]

theorem scratch_B (t : Fin cfg0.N) (h0 : ¬ t.val % 12 = 0) :
    (outsAt0 m c t.val t.isLt).2.2.2 = (outsAt0 m c (t.val - 1) (Nat.lt_of_le_of_lt (Nat.sub_le _ _) t.isLt)).2.2.2 := by
  rw [outsAt0_B m c t h0]
  rfl

/-- The scratch holds the scaled weights after every point. -/
theorem scratch (n : ℕ) : ∀ hn : n < cfg0.N, (outsAt0 m c n hn).2.2.2 = WdK (W m c) (S m c) := by
  induction n with
  | zero => exact fun hn => scratch_A m c ⟨0, hn⟩ (Nat.zero_mod _)
  | succ n ih =>
    intro hn
    have hlt : n + 1 < 12 := lt_N ⟨n + 1, hn⟩
    have h0 : ¬ (n + 1) % 12 = 0 := by omega
    exact (scratch_B m c ⟨n + 1, hn⟩ h0).trans (ih _)

/-- What point `t` leaves for the product, the codes and the scale bytes. -/
theorem outs (t : Fin cfg0.N) :
    (outsAt0 m c t.val t.isLt).1 = YK (iblk m c 0 t) (WdK (W m c) (S m c)) (iblk m c 3 t)
      ∧ (outsAt0 m c t.val t.isLt).2.1 = CodesK (iblk m c 0 t)
      ∧ (outsAt0 m c t.val t.isLt).2.2.1 = ScalesK (iblk m c 0 t) := by
  by_cases h0 : t.val % 12 = 0
  · rw [outsAt0_A m c t h0]
    refine ⟨?_, ?_, ?_⟩
    · dsimp only
      rw [out_A_4, iblk1, iblk2]
    · dsimp only
      rw [out_A_5]
    · dsimp only
      rw [out_A_6]
  · rw [outsAt0_B m c t h0]
    refine ⟨?_, ?_, ?_⟩
    · dsimp only
      rw [out_B_4, scratch]
    · dsimp only
      rw [out_B_5]
    · dsimp only
      rw [out_B_6]

/-! ## From a point's rows to the arrays -/

theorem quot_row (t : Fin cfg0.N) (r : Fin 512) (b : Fin 64) :
    (Mx.quot fun i : Fin 32 => (iblk m c 0 t : Vec Ideal S512x2048 .bf16) (ix2 r ⟨b * 32 + i, by omega⟩)) = quotAt (X m c) (row t r) b := by
  unfold quotAt
  exact congrArg Mx.quot (funext fun i => iblk0 m c t r _)

set_option maxHeartbeats 1000000 in
theorem codes_row (t : Fin cfg0.N) (r : Fin 512) (k : Fin 2048) : CodesK (iblk m c 0 t) (ix2 r k) = Codes (X m c) (ix2 (row t r) k) := by
  show Mx.code ((iblk m c 0 t : Vec Ideal S512x2048 .bf16) (ix2 r k)) (blockQuot (iblk m c 0 t) r k) = Mx.code (X m c (ix2 (row t r) k)) (quotAt (X m c) (row t r) (blockOf k))
  rw [iblk0, ← quot_row]
  rfl

theorem scales_row (t : Fin cfg0.N) (r : Fin 512) (b : Fin 64) : ScalesK (iblk m c 0 t) (ix2 r b) = Scales (X m c) (ix2 (row t r) b) := by
  show BitVec.setWidth 8 (Mx.byte _) = BitVec.setWidth 8 (Mx.byte (quotAt (X m c) (row t r) b))
  rw [← quot_row]
  rfl

set_option maxHeartbeats 1000000 in
theorem product_row (t : Fin cfg0.N) (r : Fin 512) (n : Fin 2304) :
    YK (iblk m c 0 t) (WdK (W m c) (S m c)) (iblk m c 3 t) (ix2 r n) = Product (X m c) (W m c) (S m c) (R m c) (ix2 (row t r) n) := by
  show ∑ k : Fin 2048, DeqK (iblk m c 0 t) (ix2 r k) * WdK (W m c) (S m c) (ix2 k n) + (iblk m c 3 t : Vec Ideal S512x2304 .bf16) (ix2 r n)
    = ∑ k : Fin 2048, (Codes (X m c) (ix2 (row t r) k) * Mx.p2 (Mx.byte (quotAt (X m c) (row t r) (blockOf k))))
      * (W m c (ix2 k n) * Mx.p2 (BitVec.setWidth 32 (S m c (ix2 (blockOf k) n)))) + R m c (ix2 (row t r) n)
  refine congrArg₂ (fun a b : EReal => a + b) (Finset.sum_congr rfl fun k _ => ?_) (iblk3 m c t r n)
  have e : DeqK (iblk m c 0 t) (ix2 r k) = Codes (X m c) (ix2 (row t r) k) * Mx.p2 (Mx.byte (quotAt (X m c) (row t r) (blockOf k))) := by
    rw [← codes_row, ← quot_row]
    unfold DeqK CodesK blockQuot blockOf
    rfl
  rw [e]
  unfold WdK blockOf
  rfl

theorem flushed4 (t : Fin cfg0.N) :
    (dats m 0 c).flushed 4 t = ((cfg0.win 4).blk t).view.read (Elt Ideal) (Product (X m c) (W m c) (S m c) (R m c)) := by
  rw [Value.flushed4, (outs m c t).1]
  obtain ⟨e0, e1⟩ := index4 t
  funext y
  have hy : (cfg0.win 4).xinj (grid0.coords t) y = ix2 (⟨(y 0).val, (y 0).isLt⟩ : Fin 512) (⟨(y 1).val, (y 1).isLt⟩ : Fin 2304) := by
    funext a
    match a with
    | ⟨0, _⟩ => rfl
    | ⟨1, _⟩ => rfl
  show YK (iblk m c 0 t) (WdK (W m c) (S m c)) (iblk m c 3 t) ((cfg0.win 4).xinj (grid0.coords t) y) = Product (X m c) (W m c) (S m c) (R m c) (((cfg0.win 4).blk t).view.emb y)
  rw [hy, product_row]
  congr 1
  funext a
  match a with
  | ⟨0, _⟩ => exact Fin.ext (by show 512 * t.val + (y 0).val = win0_4.index t (0 : Fin 2) * 512 + 1 * (y 0).val; omega)
  | ⟨1, _⟩ => exact Fin.ext (by show (y 1).val = win0_4.index t (1 : Fin 2) * 2304 + 1 * (y 1).val; omega)

theorem flushed5 (t : Fin cfg0.N) :
    (dats m 0 c).flushed 5 t = ((cfg0.win 5).blk t).view.read (Elt Ideal) (Codes (X m c)) := by
  rw [Value.flushed5, (outs m c t).2.1]
  obtain ⟨e0, e1⟩ := index5 t
  funext y
  have hy : (cfg0.win 5).xinj (grid0.coords t) y = ix2 (⟨(y 0).val, (y 0).isLt⟩ : Fin 512) (⟨(y 1).val, (y 1).isLt⟩ : Fin 2048) := by
    funext a
    match a with
    | ⟨0, _⟩ => rfl
    | ⟨1, _⟩ => rfl
  show CodesK (iblk m c 0 t) ((cfg0.win 5).xinj (grid0.coords t) y) = Codes (X m c) (((cfg0.win 5).blk t).view.emb y)
  rw [hy, codes_row]
  congr 1
  funext a
  match a with
  | ⟨0, _⟩ => exact Fin.ext (by show 512 * t.val + (y 0).val = win0_5.index t (0 : Fin 2) * 512 + 1 * (y 0).val; omega)
  | ⟨1, _⟩ => exact Fin.ext (by show (y 1).val = win0_5.index t (1 : Fin 2) * 2048 + 1 * (y 1).val; omega)

theorem flushed6 (t : Fin cfg0.N) :
    (dats m 0 c).flushed 6 t = ((cfg0.win 6).blk t).view.read (Elt Ideal) (Scales (X m c)) := by
  rw [Value.flushed6, (outs m c t).2.2]
  obtain ⟨e0, e1⟩ := index6 t
  funext y
  have hy : (cfg0.win 6).xinj (grid0.coords t) y = ix2 (⟨(y 0).val, (y 0).isLt⟩ : Fin 512) (⟨(y 1).val, (y 1).isLt⟩ : Fin 64) := by
    funext a
    match a with
    | ⟨0, _⟩ => rfl
    | ⟨1, _⟩ => rfl
  show ScalesK (iblk m c 0 t) ((cfg0.win 6).xinj (grid0.coords t) y) = Scales (X m c) (((cfg0.win 6).blk t).view.emb y)
  rw [hy, scales_row]
  congr 1
  funext a
  match a with
  | ⟨0, _⟩ => exact Fin.ext (by show 512 * t.val + (y 0).val = win0_6.index t (0 : Fin 2) * 512 + 1 * (y 0).val; omega)
  | ⟨1, _⟩ => exact Fin.ext (by show (y 1).val = win0_6.index t (1 : Fin 2) * 64 + 1 * (y 1).val; omega)

/-! The arrays after the run. -/

theorem final4 : (dats m 0 c).arrAt 4 cfg0.N = Product (X m c) (W m c) (S m c) (R m c) :=
  (dats m 0 c).arrAt_eq_of_cover 4 _ (fun t _ => flushed4 m c t) fun i => (Value.covered_iff4 i).2 (by
    have h0 : (i 0).val < 6144 := (i 0).isLt
    have h1 : (i 1).val < 2304 := (i 1).isLt
    omega)

theorem final5 : (dats m 0 c).arrAt 5 cfg0.N = Codes (X m c) :=
  (dats m 0 c).arrAt_eq_of_cover 5 _ (fun t _ => flushed5 m c t) fun i => (Value.covered_iff5 i).2 (by
    have h0 : (i 0).val < 6144 := (i 0).isLt
    have h1 : (i 1).val < 2048 := (i 1).isLt
    omega)

theorem final6 : (dats m 0 c).arrAt 6 cfg0.N = Scales (X m c) :=
  (dats m 0 c).arrAt_eq_of_cover 6 _ (fun t _ => flushed6 m c t) fun i => (Value.covered_iff6 i).2 (by
    have h0 : (i 0).val < 6144 := (i 0).isLt
    have h1 : (i 1).val < 64 := (i 1).isLt
    omega)

/-! The arrays the pipeline is entered with, from the arguments. -/

theorem X_eq : X m c = shapeCast S6144x2048 (m ((c : Thread nD τ).loc main_arg0)) shapeCasts_S1x6144x2048_S6144x2048 := by
  unfold X
  entry_read
  rfl

theorem R_eq : R m c = shapeCast S6144x2304 (m ((c : Thread nD τ).loc main_arg3)) shapeCasts_S1x6144x2304_S6144x2304 := by
  unfold R
  entry_read
  rfl

theorem W_eq : W m c = m ((c : Thread nD τ).loc main_arg1) := by
  unfold W
  entry_read
  rfl

theorem S_eq : S m c = m ((c : Thread nD τ).loc main_arg2) := by
  unfold S
  entry_read
  rfl

end Cert.Out
end
end
-- ==== Proof.RefRun.lean ====
module
public import proofs.«01_k».proof.Proof.Gen.ReferenceIdeal.Frame
public import Idealize.ShloMosaic.Lib.Pipeline.Value

/-! The reference's run, with its three result arrays named: `run_blocks` is the frame's run with each output array as what the
pipeline leaves in it, and `flushed4`, `flushed5`, `flushed6` say what its only grid point writes back. -/

@[expose] public section
noncomputable section

open Cert.ReferenceIdeal Cert.ReferenceIdeal.Gen Idealize.ShloMosaic Idealize.ShloMosaic.TcCoe Idealize.SL.Sem
open Idealize.ShloMosaic.Pipeline (Dat)

namespace Cert.RefRun

variable {F : FTy → Type} [FloatOps F]
variable (m : (ℓ : Loc nD τ sig) → Buf (Elt F) ℓ) (ρ : Dev nD → PrngReg)

/-- What the grid point writes back to output window 4. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- What the grid point writes back to output window 5. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- What the grid point writes back to output window 6. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.RefRun
end
end
-- ==== Proof.RefPay.lean ====
module
public import proofs.«01_k».proof.Proof.Gen.ReferenceIdeal.Frame
public import Idealize.ShloMosaic.Lib.Pointwise
public import proofs.«01_k».proof.Proof.Scalar

/-! The values the reference's body computes, element by element: the greatest magnitude of each block of 32, its exponent, the
code of each element, the scale byte of each block, and one element of the block-scaled product. -/

set_option maxRecDepth 16384

@[expose] public section
noncomputable section

open Idealize.ShloMosaic Idealize.ShloMosaic.TcCoe Idealize.SL.Sem
open Cert.ReferenceIdeal Cert.ReferenceIdeal.Gen

namespace Cert.RefPay

/-- Each block's greatest absolute value. -/
def gmax (v : Vec Ideal S6144x2048 .bf16) : FVec Ideal S6144x64 .f32 :=
  multiReduction .maximumf [2] S6144x64 (absf (k0_pay2 v)) 0xFF800000#32 reduces_S6144x64x32_S6144x64 (.inl rfl) rfl

/-- Each block's greatest absolute value over 448. -/
def quot (M : FVec Ideal S6144x64 .f32) : FVec Ideal S6144x64x1 .f32 :=
  mulf (shapeCast S6144x64x1 M shapeCasts_S6144x64_S6144x64x1)
    (broadcast S6144x64x1 (Scalar.ofBits .f32 0x3B124925#32))

/-- The exponent of each block's quotient. -/
def expo (q : FVec Ideal S6144x64x1 .f32) : IVec S6144x64x1 32 :=
  select (ori (cmpf .olt q (broadcast S6144x64x1 (Scalar.ofBits .f32 0x00800000#32)))
      (cmpf .oeq q (broadcast S6144x64x1 (Scalar.ofBits .f32 0x7F800000#32))))
    (broadcast S6144x64x1 0#32)
    (addi (fptosi 32 (floor (divf (log q) (log (broadcast S6144x64x1 (Scalar.ofBits .f32 0x40000000#32))))))
      (broadcast S6144x64x1 1#32))

theorem pay3_eq (v : Vec Ideal S6144x2048 .bf16) : k0_pay3 v = expo (quot (gmax v)) := rfl

theorem lift_eq (r : Fin 6144) (b : Fin 64) (i : Fin 32) :
    reduces_S6144x64x32_S6144x64.lift (ix2 r b) i = ix3 r b i := by
  funext k
  fin_cases k <;> rfl

theorem negInf : (FloatOps.ofBits .f32 0xFF800000#32 : Ideal .f32) = (⊥ : EReal) := by
  show Ideal.ofBits .f32 0xFF800000#32 = _
  simp [Ideal.ofBits, Ideal.ieee]

theorem abs_apply (v : Vec Ideal S6144x2048 .bf16) (r : Fin 6144) (b : Fin 64) (i : Fin 32) :
    absf (k0_pay2 v) (ix3 r b i) = Mx.abs (v (ix2 r ⟨b * 32 + i, by omega⟩)) := by
  pointwise [k0_pay2]
  rfl

theorem gmax_apply (v : Vec Ideal S6144x2048 .bf16) (r : Fin 6144) (b : Fin 64) :
    gmax v (ix2 r b) = Mx.amax fun i : Fin 32 => v (ix2 r ⟨b * 32 + i, by omega⟩) := by
  refine (Ideal.multiReduction_maximumf_single (s := S6144x64x32) (t := S6144x64) (a := 2) (absf (k0_pay2 v)) 0xFF800000#32 reduces_S6144x64x32_S6144x64 (.inl rfl) rfl (ix2 r b)).trans ?_
  rw [negInf]
  unfold Mx.amax
  refine (Finset.fold_congr (g := fun i : Fin 32 => Mx.abs (v (ix2 r ⟨b * 32 + i, by omega⟩))) fun i _ => ?_).trans rfl
  exact (congrArg (absf (k0_pay2 v)) (lift_eq r b i)).trans (abs_apply v r b i)

theorem quot_apply (M) (r : Fin 6144) (b : Fin 64) : quot M (ix3 r b 0) = M (ix2 r b) * Ideal.ofBits .f32 0x3B124925#32 := by
  pointwise [quot]

theorem expo_apply (q) (r : Fin 6144) (b : Fin 64) : expo q (ix3 r b 0) = Mx.expo (q (ix3 r b 0)) := by
  unfold Mx.expo
  pointwise [expo]
  rfl

theorem pay3_apply (v : Vec Ideal S6144x2048 .bf16) (r : Fin 6144) (b : Fin 64) :
    k0_pay3 v (ix3 r b 0) = Mx.expo (Mx.quot fun i : Fin 32 => v (ix2 r ⟨b * 32 + i, by omega⟩)) := by
  rw [pay3_eq, expo_apply, quot_apply, gmax_apply]
  rfl

theorem pay4_apply (v : Vec Ideal S6144x2048 .bf16) (r : Fin 6144) (b : Fin 64) (i : Fin 32) :
    k0_pay4 v (ix3 r b i) = Mx.refCode (v (ix2 r ⟨b * 32 + i, by omega⟩))
      (Mx.quot fun i : Fin 32 => v (ix2 r ⟨b * 32 + i, by omega⟩)) := by
  unfold Mx.refCode
  rw [← pay3_apply]
  pointwise [k0_pay4, k0_pay2]
  rfl

theorem pay5_apply (v : Vec Ideal S6144x2048 .bf16) (r : Fin 6144) (b : Fin 64) :
    k0_pay5 v (ix2 r b) = Mx.refByte (Mx.quot fun i : Fin 32 => v (ix2 r ⟨b * 32 + i, by omega⟩)) := by
  unfold Mx.refByte
  rw [← pay3_apply]
  pointwise [k0_pay5]

theorem pay6_apply (v : Vec Ideal S6144x2048 .bf16) (r : Fin 6144) (k : Fin 2048) :
    k0_pay6 v (ix2 r k) = k0_pay4 v (ix3 r ⟨k / 32, by omega⟩ ⟨k % 32, by omega⟩) := by
  pointwise [k0_pay6]

/-- The reference's product: block by block, each block's product scaled by the two scales and added up. -/
theorem pay1_apply (x0 : FVec Ideal S6144x64x32 .f32) (x1) (x2) (x3) (x4) (r : Fin 6144) (n : Fin 2304) :
    k0_pay1 (F := Ideal) x0 x1 x2 x3 x4 (ix2 r n) = ∑ b : Fin 64,
      (∑ i : Fin 32, x0 (ix3 r b i) * x2 (ix2 ⟨b * 32 + i, by omega⟩ n)) * Mx.refScale (x1 (ix2 r b)) * Mx.refScale (x3 (ix2 b n))
        + x4 (ix2 r n) := by
  pointwise [k0_pay1]
  rfl

end Cert.RefPay
end
end
-- ==== Proof.RefVal.lean ====
module
public import proofs.«01_k».proof.Proof.RefRun
public import proofs.«01_k».proof.Proof.RefPay
public import Idealize.ShloMosaic.Lib.Claim

/-! The reference's three result arrays, index by index. -/

set_option maxRecDepth 16384

@[expose] public section
noncomputable section

open Idealize.ShloMosaic Idealize.ShloMosaic.TcCoe Idealize.SL.Sem
open Cert.ReferenceIdeal Cert.ReferenceIdeal.Gen

namespace Cert.RefOut

/-- The quotient of block `b` of row `r`. -/
def quotAt (X : Vec Ideal S6144x2048 .bf16) (r : Fin 6144) (b : Fin 64) : EReal :=
  Mx.quot fun i : Fin 32 => X (ix2 r ⟨b * 32 + i, by omega⟩)

/-- The block a column lies in. -/
def blockOf (k : Fin 2048) : Fin 64 := ⟨k / 32, by omega⟩

/-- The codes. -/
def Codes (X : Vec Ideal S6144x2048 .bf16) : Vec Ideal S6144x2048 .fp8e4m3 :=
  fun y => Mx.refCode (X y) (quotAt X (y 0) (blockOf (y 1)))

/-- The scale bytes. -/
def Scales (X : Vec Ideal S6144x2048 .bf16) : Vec Ideal S6144x64 .i8 :=
  fun y => Mx.refByte (quotAt X (y 0) (y 1))

/-- The block-scaled product and the residual. -/
def Product (X : Vec Ideal S6144x2048 .bf16) (W : Vec Ideal S2048x2304 .fp8e4m3) (S : Vec Ideal S64x2304 .i8)
    (R : Vec Ideal S6144x2304 .bf16) : Vec Ideal S6144x2304 .bf16 :=
  fun y => ∑ b : Fin 64, (∑ i : Fin 32, Codes X (ix2 (y 0) ⟨b * 32 + i, by omega⟩) * W (ix2 ⟨b * 32 + i, by omega⟩ (y 1)))
    * Mx.refScale (Scales X (ix2 (y 0) b)) * Mx.refScale (S (ix2 b (y 1))) + R y

theorem ix2_eta {a b : ℕ} (y : Shape.Idx ⟨2, ![a, b]⟩) : y = ix2 (y 0) (y 1) := by
  funext k
  match k with
  | ⟨0, _⟩ => rfl
  | ⟨1, _⟩ => rfl

theorem ext2 {a b : ℕ} {α : Type} {f g : Shape.Idx ⟨2, ![a, b]⟩ → α} (h : ∀ r k, f (ix2 r k) = g (ix2 r k)) : f = g := by
  funext y
  have := h (y 0) (y 1)
  exact ((congrArg f (ix2_eta y)).trans this).trans (congrArg g (ix2_eta y)).symm

theorem hz : (![0, 0] : Fin 2 → ℕ) = fun _ => 0 := by
  funext a
  match a with
  | ⟨0, _⟩ => rfl
  | ⟨1, _⟩ => rfl

variable (x0 : Vec Ideal S6144x2048 .bf16) (x1 : Vec Ideal S2048x2304 .fp8e4m3) (x2 : Vec Ideal S64x2304 .i8)
  (x3 : Vec Ideal S6144x2304 .bf16)

/-! What the body leaves in each result buffer. -/

theorem pay4_eq (r : Fin 6144) (b : Fin 64) (i : Fin 32) : k0_pay4 x0 (ix3 r b i) = Codes x0 (ix2 r ⟨b * 32 + i, by omega⟩) := by
  rw [RefPay.pay4_apply]
  show _ = Mx.refCode (x0 (ix2 r ⟨b * 32 + i, _⟩)) (quotAt x0 r ⟨(b.val * 32 + i.val) / 32, _⟩)
  have e : (⟨(b.val * 32 + i.val) / 32, by omega⟩ : Fin 64) = b := Fin.ext (by show (b.val * 32 + i.val) / 32 = b.val; omega)
  rw [e]
  rfl

theorem out5 : out0_5 x0 x1 x2 x3 = Codes x0 := by
  unfold out0_5
  rw [View.canon_unit_zero hz, View.ld_unit_zero hz]
  refine ext2 fun r k => ?_
  rw [RefPay.pay6_apply, pay4_eq]
  exact congrArg (fun k => Codes x0 (ix2 r k)) (Fin.ext (by show k.val / 32 * 32 + k.val % 32 = k.val; omega))

theorem bytes_eq : k0_pay7 x0 x1 x2 x3 = Scales x0 := by
  unfold k0_pay7
  rw [View.ld_unit_zero hz]
  refine ext2 fun r b => ?_
  rw [RefPay.pay5_apply]
  rfl

theorem out6 : out0_6 x0 x1 x2 x3 = Scales x0 := by
  unfold out0_6
  rw [View.canon_unit_zero hz, bytes_eq]

theorem out4 : out0_4 x0 x1 x2 x3 = Product x0 x1 x2 x3 := by
  unfold out0_4
  rw [View.canon_unit_zero hz, bytes_eq]
  rw [View.ld_unit_zero hz, View.ld_unit_zero hz, View.ld_unit_zero hz, View.ld_unit_zero hz]
  refine ext2 fun r n => ?_
  rw [RefPay.pay1_apply]
  simp only [pay4_eq]
  rfl

variable (m : (ℓ : Loc nD τ sig) → Buf (Elt Ideal) ℓ) (c : Dev nD)

/-- The activations as a 6144 x 2048 array. -/
abbrev X : Vec Ideal S6144x2048 .bf16 := V m c main_v0
/-- The weight codes. -/
abbrev W : Vec Ideal S2048x2304 .fp8e4m3 := V m c main_arg1
/-- The weight scale bytes. -/
abbrev S : Vec Ideal S64x2304 .i8 := V m c main_arg2
/-- The residual as a 6144 x 2304 array. -/
abbrev R : Vec Ideal S6144x2304 .bf16 := V m c main_v1

/-! The only block of each window is its whole array. -/

theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem iblk0 (t : Fin cfg0.N) : (iblk m c 0 t : Vec Ideal S6144x2048 .bf16) = X m c := by
  obtain ⟨e0, e1⟩ := index0 t
  funext y
  show V m c main_v0 (((cfg0.win 0).blk t).view.emb y) = _
  congr 1
  funext a
  match a with
  | ⟨0, _⟩ => exact Fin.ext (by show win0_0.index t (0 : Fin 2) * 6144 + 1 * (y 0).val = (y 0).val; omega)
  | ⟨1, _⟩ => exact Fin.ext (by show win0_0.index t (1 : Fin 2) * 2048 + 1 * (y 1).val = (y 1).val; omega)

theorem iblk1 (t : Fin cfg0.N) : (iblk m c 1 t : Vec Ideal S2048x2304 .fp8e4m3) = W m c := by
  obtain ⟨e0, e1⟩ := index1 t
  funext y
  show V m c main_arg1 (((cfg0.win 1).blk t).view.emb y) = _
  congr 1
  funext a
  match a with
  | ⟨0, _⟩ => exact Fin.ext (by show win0_1.index t (0 : Fin 2) * 2048 + 1 * (y 0).val = (y 0).val; omega)
  | ⟨1, _⟩ => exact Fin.ext (by show win0_1.index t (1 : Fin 2) * 2304 + 1 * (y 1).val = (y 1).val; omega)

theorem iblk2 (t : Fin cfg0.N) : (iblk m c 2 t : Vec Ideal S64x2304 .i8) = S m c := by
  obtain ⟨e0, e1⟩ := index2 t
  funext y
  show V m c main_arg2 (((cfg0.win 2).blk t).view.emb y) = _
  congr 1
  funext a
  match a with
  | ⟨0, _⟩ => exact Fin.ext (by show win0_2.index t (0 : Fin 2) * 64 + 1 * (y 0).val = (y 0).val; omega)
  | ⟨1, _⟩ => exact Fin.ext (by show win0_2.index t (1 : Fin 2) * 2304 + 1 * (y 1).val = (y 1).val; omega)

theorem iblk3 (t : Fin cfg0.N) : (iblk m c 3 t : Vec Ideal S6144x2304 .bf16) = R m c := by
  obtain ⟨e0, e1⟩ := index3 t
  funext y
  show V m c main_v1 (((cfg0.win 3).blk t).view.emb y) = _
  congr 1
  funext a
  match a with
  | ⟨0, _⟩ => exact Fin.ext (by show win0_3.index t (0 : Fin 2) * 6144 + 1 * (y 0).val = (y 0).val; omega)
  | ⟨1, _⟩ => exact Fin.ext (by show win0_3.index t (1 : Fin 2) * 2304 + 1 * (y 1).val = (y 1).val; omega)

theorem flushed4 (t : Fin cfg0.N) :
    (dats m 0 c).flushed 4 t = ((cfg0.win 4).blk t).view.read (Elt Ideal) (Product (X m c) (W m c) (S m c) (R m c)) := by
  rw [RefRun.flushed4, out4, iblk0, iblk1, iblk2, iblk3]
  obtain ⟨e0, e1⟩ := index4 t
  funext y
  show Product (X m c) (W m c) (S m c) (R m c) ((cfg0.win 4).xinj (grid0.coords t) y) = Product (X m c) (W m c) (S m c) (R m c) (((cfg0.win 4).blk t).view.emb y)
  congr 1
  funext a
  match a with
  | ⟨0, _⟩ => exact Fin.ext (by show (y 0).val = win0_4.index t (0 : Fin 2) * 6144 + 1 * (y 0).val; omega)
  | ⟨1, _⟩ => exact Fin.ext (by show (y 1).val = win0_4.index t (1 : Fin 2) * 2304 + 1 * (y 1).val; omega)

theorem flushed5 (t : Fin cfg0.N) :
    (dats m 0 c).flushed 5 t = ((cfg0.win 5).blk t).view.read (Elt Ideal) (Codes (X m c)) := by
  rw [RefRun.flushed5, out5, iblk0]
  obtain ⟨e0, e1⟩ := index5 t
  funext y
  show Codes (X m c) ((cfg0.win 5).xinj (grid0.coords t) y) = Codes (X m c) (((cfg0.win 5).blk t).view.emb y)
  congr 1
  funext a
  match a with
  | ⟨0, _⟩ => exact Fin.ext (by show (y 0).val = win0_5.index t (0 : Fin 2) * 6144 + 1 * (y 0).val; omega)
  | ⟨1, _⟩ => exact Fin.ext (by show (y 1).val = win0_5.index t (1 : Fin 2) * 2048 + 1 * (y 1).val; omega)

theorem flushed6 (t : Fin cfg0.N) :
    (dats m 0 c).flushed 6 t = ((cfg0.win 6).blk t).view.read (Elt Ideal) (Scales (X m c)) := by
  rw [RefRun.flushed6, out6, iblk0]
  obtain ⟨e0, e1⟩ := index6 t
  funext y
  show Scales (X m c) ((cfg0.win 6).xinj (grid0.coords t) y) = Scales (X m c) (((cfg0.win 6).blk t).view.emb y)
  congr 1
  funext a
  match a with
  | ⟨0, _⟩ => exact Fin.ext (by show (y 0).val = win0_6.index t (0 : Fin 2) * 6144 + 1 * (y 0).val; omega)
  | ⟨1, _⟩ => exact Fin.ext (by show (y 1).val = win0_6.index t (1 : Fin 2) * 64 + 1 * (y 1).val; omega)

/-- The only grid point. -/
def pt : Fin cfg0.N := ⟨0, by decide +kernel⟩

theorem covered4 (i : S6144x2304.Idx) : i ∈ ((cfg0.win 4).blk pt).view.set := by
  obtain ⟨e0, e1⟩ := index4 pt
  show i ∈ ((View.whole main_v2_0).slice (win0_4.rect pt)).set
  rw [View.set_slice_whole, Rect.mem_set_unit]
  have h0 : (i 0).val < 6144 := (i 0).isLt
  have h1 : (i 1).val < 2304 := (i 1).isLt
  intro a
  match a with
  | ⟨0, _⟩ => exact (show win0_4.index pt (0 : Fin 2) * 6144 ≤ (i 0).val ∧ (i 0).val < win0_4.index pt (0 : Fin 2) * 6144 + 6144 by omega)
  | ⟨1, _⟩ => exact (show win0_4.index pt (1 : Fin 2) * 2304 ≤ (i 1).val ∧ (i 1).val < win0_4.index pt (1 : Fin 2) * 2304 + 2304 by omega)

theorem covered5 (i : S6144x2048.Idx) : i ∈ ((cfg0.win 5).blk pt).view.set := by
  obtain ⟨e0, e1⟩ := index5 pt
  show i ∈ ((View.whole main_v2_1).slice (win0_5.rect pt)).set
  rw [View.set_slice_whole, Rect.mem_set_unit]
  have h0 : (i 0).val < 6144 := (i 0).isLt
  have h1 : (i 1).val < 2048 := (i 1).isLt
  intro a
  match a with
  | ⟨0, _⟩ => exact (show win0_5.index pt (0 : Fin 2) * 6144 ≤ (i 0).val ∧ (i 0).val < win0_5.index pt (0 : Fin 2) * 6144 + 6144 by omega)
  | ⟨1, _⟩ => exact (show win0_5.index pt (1 : Fin 2) * 2048 ≤ (i 1).val ∧ (i 1).val < win0_5.index pt (1 : Fin 2) * 2048 + 2048 by omega)

theorem covered6 (i : S6144x64.Idx) : i ∈ ((cfg0.win 6).blk pt).view.set := by
  obtain ⟨e0, e1⟩ := index6 pt
  show i ∈ ((View.whole main_v2_2).slice (win0_6.rect pt)).set
  rw [View.set_slice_whole, Rect.mem_set_unit]
  have h0 : (i 0).val < 6144 := (i 0).isLt
  have h1 : (i 1).val < 64 := (i 1).isLt
  intro a
  match a with
  | ⟨0, _⟩ => exact (show win0_6.index pt (0 : Fin 2) * 6144 ≤ (i 0).val ∧ (i 0).val < win0_6.index pt (0 : Fin 2) * 6144 + 6144 by omega)
  | ⟨1, _⟩ => exact (show win0_6.index pt (1 : Fin 2) * 64 ≤ (i 1).val ∧ (i 1).val < win0_6.index pt (1 : Fin 2) * 64 + 64 by omega)

theorem flush4 : (cfg0.win 4).flush pt = true := by decide +kernel
theorem flush5 : (cfg0.win 5).flush pt = true := by decide +kernel
theorem flush6 : (cfg0.win 6).flush pt = true := by decide +kernel

/-! The arrays after the run. -/

theorem final4 : (dats m 0 c).arrAt 4 cfg0.N = Product (X m c) (W m c) (S m c) (R m c) :=
  (dats m 0 c).arrAt_eq_of_cover 4 _ (fun t _ => flushed4 m c t) fun i => ⟨pt, flush4, covered4 i⟩

theorem final5 : (dats m 0 c).arrAt 5 cfg0.N = Codes (X m c) :=
  (dats m 0 c).arrAt_eq_of_cover 5 _ (fun t _ => flushed5 m c t) fun i => ⟨pt, flush5, covered5 i⟩

theorem final6 : (dats m 0 c).arrAt 6 cfg0.N = Scales (X m c) :=
  (dats m 0 c).arrAt_eq_of_cover 6 _ (fun t _ => flushed6 m c t) fun i => ⟨pt, flush6, covered6 i⟩

/-! The arrays the body is entered with, from the arguments. -/

theorem X_eq : X m c = shapeCast S6144x2048 (m ((c : Thread nD τ).loc main_arg0)) shapeCasts_S1x6144x2048_S6144x2048 := by
  unfold X
  entry_read
  rfl

theorem R_eq : R m c = shapeCast S6144x2304 (m ((c : Thread nD τ).loc main_arg3)) shapeCasts_S1x6144x2304_S6144x2304 := by
  unfold R
  entry_read
  rfl

theorem W_eq : W m c = m ((c : Thread nD τ).loc main_arg1) := by
  unfold W
  entry_read
  rfl

theorem S_eq : S m c = m ((c : Thread nD τ).loc main_arg2) := by
  unfold S
  entry_read
  rfl

end Cert.RefOut
end
end
-- ==== Proof.Equation.lean ====
module
public import proofs.«01_k».proof.Proof.Scalar

/-! The two ways of a block-scaled product over the extended reals.

The kernel multiplies each code by its block's scale and each weight by its block's, and sums all 2048 terms; the reference sums a
block's 32 products of code and weight and multiplies that sum by the two scales.  They agree because each scale is a positive real:
such a factor moves through a sum of extended reals. -/

set_option maxRecDepth 16384

@[expose] public section
noncomputable section

open Idealize.ShloMosaic

namespace Cert.Mx

/-- A positive real factor moves into a sum of extended reals. -/
theorem sum_mul {n : ℕ} (f : Fin n → EReal) (s : ℝ) (hs : 0 < s) : (∑ i, f i) * (s : EReal) = ∑ i, f i * (s : EReal) := by
  have key : ∀ t : Finset (Fin n), (∑ i ∈ t, f i) * (s : EReal) = ∑ i ∈ t, f i * (s : EReal) := by
    intro t
    induction t using Finset.induction_on with
    | empty => simp
    | insert a t ha ih =>
      rw [Finset.sum_insert ha, Finset.sum_insert ha, EReal.right_distrib_of_nonneg_of_ne_top (by exact_mod_cast hs.le) (EReal.coe_ne_top s), ih]
  exact key _

/-- A sum over 2048 columns is the sum over 64 blocks of the sums over each block's 32 columns. -/
theorem sum_blocks (f : Fin 2048 → EReal) : ∑ k, f k = ∑ b : Fin 64, ∑ i : Fin 32, f ⟨b * 32 + i, by omega⟩ := by
  rw [← Fintype.sum_prod_type' (f := fun (b : Fin 64) (i : Fin 32) => f ⟨b * 32 + i, by omega⟩)]
  exact (Fintype.sum_equiv (finProdFinEquiv (m := 64) (n := 32)) _ _ fun p => congrArg f (Fin.ext (by
    show p.1.val * 32 + p.2.val = p.2.val + 32 * p.1.val
    omega))).symm

/-- The product equation of one result element. -/
theorem product (x : Fin 64 → Fin 32 → EReal) (w : Fin 64 → Fin 32 → EReal) (s u : Fin 64 → EReal)
    (hs : ∀ b, ∃ r : ℝ, 0 < r ∧ s b = r) (hu : ∀ b, ∃ r : ℝ, 0 < r ∧ u b = r) :
    ∑ b, ∑ i, (x b i * s b) * (w b i * u b) = ∑ b, (∑ i, x b i * w b i) * s b * u b := by
  refine Finset.sum_congr rfl fun b _ => ?_
  obtain ⟨r, hr, er⟩ := hs b
  obtain ⟨v, hv, ev⟩ := hu b
  rw [er, ev, sum_mul _ _ hr, sum_mul _ _ hv]
  refine Finset.sum_congr rfl fun i _ => ?_
  rw [mul_mul_mul_comm, ← mul_assoc]

/-- The constant the greatest magnitude is multiplied by, about 1/448. -/
theorem ofBits_coef : ∃ r : ℝ, 0 < r ∧ r < 1 / 400 ∧ Ideal.ofBits .f32 0x3B124925#32 = (r : EReal) := by
  unfold Ideal.ofBits Ideal.ieee
  simp only [Nat.reduceAdd]
  rw [show BitVec.extractLsb' 23 8 (0x3B124925#32) = 118#8 by decide, show BitVec.extractLsb' 31 1 (0x3B124925#32) = 0#1 by decide,
    show BitVec.extractLsb' 0 23 (0x3B124925#32) = 1198373#23 by decide]
  refine ⟨_, ?_, ?_, rfl⟩ <;> norm_num

/-- The largest finite bf16. -/
theorem ofBits_max : Ideal.ofBits .bf16 0x7F7F#16 = (((255 : ℝ) * 2 ^ (120 : ℤ) : ℝ) : EReal) := by
  unfold Ideal.ofBits Ideal.ieee
  simp only [Nat.reduceAdd]
  rw [show BitVec.extractLsb' 7 8 (0x7F7F#16) = 254#8 by decide, show BitVec.extractLsb' 15 1 (0x7F7F#16) = 0#1 by decide,
    show BitVec.extractLsb' 0 7 (0x7F7F#16) = 127#7 by decide]
  norm_num

theorem ofBits_inf : Ideal.ofBits .bf16 0x7F80#16 = ⊤ := by
  unfold Ideal.ofBits Ideal.ieee
  simp only [Nat.reduceAdd]
  rw [show BitVec.extractLsb' 7 8 (0x7F80#16) = 255#8 by decide, show BitVec.extractLsb' 15 1 (0x7F80#16) = 0#1 by decide,
    show BitVec.extractLsb' 0 7 (0x7F80#16) = 0#7 by decide]
  simp

/-- Where every element of a block is at most the largest finite bf16 in magnitude, or infinite, the block's quotient is in the
    range of the scale theorems. -/
theorem quot_range (g : Fin 32 → EReal)
    (h : ∀ i, abs (g i) ≤ (((255 : ℝ) * 2 ^ (120 : ℤ) : ℝ) : EReal) ∨ abs (g i) = ⊤) :
    0 ≤ quot g ∧ (quot g < (((2 : ℝ) ^ (120 : ℤ) : ℝ) : EReal) ∨ quot g = ⊤) := by
  obtain ⟨r, hr, hr1, er⟩ := ofBits_coef
  have hpos : 0 ≤ amax g := by
    refine le_trans ?_ (Finset.le_sup (f := fun i => abs (g i)) (Finset.mem_univ (0 : Fin 32)))
    show 0 ≤ max (g 0) (-(g 0))
    rcases le_total 0 (g 0) with h0 | h0
    · exact le_max_of_le_left h0
    · exact le_max_of_le_right (EReal.neg_nonneg.2 h0)
  have hrE : (0 : EReal) ≤ (r : EReal) := by exact_mod_cast hr.le
  unfold quot
  rw [er]
  refine ⟨mul_nonneg hpos hrE, ?_⟩
  by_cases ht : ∃ i, abs (g i) = ⊤
  · obtain ⟨i, hi⟩ := ht
    right
    have : amax g = ⊤ := top_le_iff.1 (hi ▸ Finset.le_sup (f := fun i => abs (g i)) (Finset.mem_univ i))
    rw [this]
    exact EReal.top_mul_coe_of_pos hr
  · left
    have hle : amax g ≤ (((255 : ℝ) * 2 ^ (120 : ℤ) : ℝ) : EReal) :=
      Finset.sup_le fun i _ => (h i).resolve_right fun e => ht ⟨i, e⟩
    refine lt_of_le_of_lt (mul_le_mul_of_nonneg_right hle hrE) ?_
    rw [← EReal.coe_mul]
    refine EReal.coe_lt_coe_iff.2 ?_
    have : (0 : ℝ) < 2 ^ (120 : ℤ) := by positivity
    nlinarith

end Cert.Mx
end
end
-- ==== Proof.Results.lean ====
module
public import proofs.«01_k».proof.Proof.KernelVal
public import proofs.«01_k».proof.Proof.RefVal
public import proofs.«01_k».proof.Proof.Equation

/-! The three equations: what the kernel leaves in each result array is what the reference leaves there, for inputs at most the
largest finite bf16 in magnitude or infinite, and weight scale bytes between 1 and 254. -/

set_option maxRecDepth 16384

@[expose] public section
noncomputable section

open Idealize.ShloMosaic Idealize.ShloMosaic.TcCoe Idealize.SL.Sem

open Cert.KernelIdeal

namespace Cert.Results

variable (X : Vec Ideal S6144x2048 .bf16)
  (hX : ∀ r k, Mx.abs (X (ix2 r k)) ≤ (((255 : ℝ) * 2 ^ (120 : ℤ) : ℝ) : EReal) ∨ Mx.abs (X (ix2 r k)) = ⊤)

include hX in
theorem range (r : Fin 6144) (b : Fin 64) :
    0 ≤ Out.quotAt X r b ∧ (Out.quotAt X r b < (((2 : ℝ) ^ (120 : ℤ) : ℝ) : EReal) ∨ Out.quotAt X r b = ⊤) :=
  Mx.quot_range _ fun _ => hX _ _

include hX in
theorem code_eq (r : Fin 6144) (k : Fin 2048) (b : Fin 64) :
    Mx.refCode (X (ix2 r k)) (Out.quotAt X r b) = Mx.code (X (ix2 r k)) (Out.quotAt X r b) := by
  obtain ⟨h0, h⟩ := range X hX r b
  unfold Mx.refCode Mx.code
  rw [Mx.inv_scale _ h0 h]

include hX in
/-- The codes. -/
theorem codes : RefOut.Codes X = Out.Codes X :=
  RefOut.ext2 fun r k => code_eq X hX r k (Out.blockOf k)

include hX in
/-- The scale bytes. -/
theorem scales : RefOut.Scales X = Out.Scales X :=
  RefOut.ext2 fun r b => by
    obtain ⟨h0, h⟩ := range X hX r b
    exact Mx.scale_byte _ h0 h

include hX in
/-- The product. -/
theorem product (W : Vec Ideal S2048x2304 .fp8e4m3) (S : Vec Ideal S64x2304 .i8) (R : Vec Ideal S6144x2304 .bf16)
    (hS : ∀ b n, 1 ≤ (S (ix2 b n)).toNat ∧ (S (ix2 b n)).toNat ≤ 254) :
    RefOut.Product X W S R = Out.Product X W S R := by
  refine RefOut.ext2 fun r n => ?_
  refine congrArg (fun z : EReal => z + R (ix2 r n)) ?_
  show ∑ b : Fin 64, (∑ i : Fin 32, RefOut.Codes X (ix2 r ⟨b * 32 + i, by omega⟩) * W (ix2 ⟨b * 32 + i, by omega⟩ n))
      * Mx.refScale (RefOut.Scales X (ix2 r b)) * Mx.refScale (S (ix2 b n))
    = ∑ k : Fin 2048, (Out.Codes X (ix2 r k) * Mx.p2 (Mx.byte (Out.quotAt X r (Out.blockOf k))))
      * (W (ix2 k n) * Mx.p2 (BitVec.setWidth 32 (S (ix2 (Out.blockOf k) n))))
  rw [Mx.sum_blocks, codes X hX, scales X hX]
  have hs : ∀ b : Fin 64, ∃ s : ℝ, 0 < s ∧ Mx.p2 (Mx.byte (Out.quotAt X r b)) = (s : EReal)
      ∧ Mx.refScale (Out.Scales X (ix2 r b)) = (s : EReal) := fun b =>
    Mx.scale _ (range X hX r b).1 (range X hX r b).2
  have hu : ∀ b : Fin 64, ∃ s : ℝ, 0 < s ∧ Mx.p2 (BitVec.setWidth 32 (S (ix2 b n))) = (s : EReal)
      ∧ Mx.refScale (S (ix2 b n)) = (s : EReal) := fun b =>
    Mx.wscale _ (hS b n).1 (hS b n).2
  have hb : ∀ (b : Fin 64) (i : Fin 32), Out.blockOf ⟨b * 32 + i, by omega⟩ = b := fun b i =>
    Fin.ext (by show (b.val * 32 + i.val) / 32 = b.val; omega)
  have e := Mx.product (fun b i => Out.Codes X (ix2 r ⟨b * 32 + i, by omega⟩)) (fun b i => W (ix2 ⟨b * 32 + i, by omega⟩ n))
    (fun b => Mx.refScale (Out.Scales X (ix2 r b))) (fun b => Mx.refScale (S (ix2 b n)))
    (fun b => let ⟨s, h, _, e⟩ := hs b; ⟨s, h, e⟩) (fun b => let ⟨s, h, _, e⟩ := hu b; ⟨s, h, e⟩)
  refine e.symm.trans ?_
  refine Finset.sum_congr rfl fun b _ => Finset.sum_congr rfl fun i _ => ?_
  obtain ⟨s, -, s1, s2⟩ := hs b
  obtain ⟨u, -, u1, u2⟩ := hu b
  simp only [hb, s1, s2, u1, u2]

end Cert.Results
end
end
-- ==== Proof.Precondition.lean ====
module
public import proofs.«01_k».proof.Defs
public import proofs.«01_k».proof.Proof.Results

/-! What the precondition says of one element: each input is at most the largest finite bf16 in magnitude or infinite, and each
weight scale byte is between 1 and 254. -/

set_option maxRecDepth 16384

@[expose] public section
noncomputable section

open Idealize.ShloMosaic Idealize.ShloMosaic.TcCoe Idealize.SL.Sem

open Cert.KernelIdeal

namespace Cert.Pre

instance facts : Cert.Pre_encoded.Facts where
  bcast_S_S1x6144x2048 := by decide
  bcast_S_S64x2304 := by decide

theorem ofBool_true {b : Bool} (h : BitVec.ofBool b = 1#1) : b = true := by
  cases b
  · exact absurd h (by decide)
  · rfl

theorem or_true {a b : BitVec 1} : a ||| b = 1#1 → a = 1#1 ∨ b = 1#1 := by
  revert a b
  decide

theorem and_true {a b : BitVec 1} : a &&& b = 1#1 → a = 1#1 ∧ b = 1#1 := by
  revert a b
  decide

/-- Each input is at most the largest finite bf16 in magnitude, or infinite. -/
theorem input (a0 : Vec Ideal S1x6144x2048 .bf16) (a1 a2 a3)
    (h : (Cert.Pre_encoded.fn (F := Ideal) a0 a1 a2 a3).1 = fun _ => 1#1) (y : S1x6144x2048.Idx) :
    Mx.abs (a0 y) ≤ (((255 : ℝ) * 2 ^ (120 : ℤ) : ℝ) : EReal) ∨ Mx.abs (a0 y) = ⊤ := by
  have e := congrFun h y
  have e' : Ideal.cmp .ole (Mx.abs (a0 y)) (Ideal.ofBits .bf16 0x7F7F#16) ||| Ideal.cmp .oeq (Mx.abs (a0 y)) (Ideal.ofBits .bf16 0x7F80#16) = 1#1 := e
  rw [Mx.ofBits_max, Mx.ofBits_inf] at e'
  rcases or_true e' with h1 | h1
  · exact .inl (of_decide_eq_true (ofBool_true h1))
  · exact .inr (of_decide_eq_true (ofBool_true h1))

/-- Each weight scale byte is between 1 and 254. -/
theorem scale (a0 : Vec Ideal S1x6144x2048 .bf16) (a1) (a2 : Vec Ideal S64x2304 .i8) (a3)
    (h : (Cert.Pre_encoded.fn (F := Ideal) a0 a1 a2 a3).2 = fun _ => 1#1) (y : S64x2304.Idx) :
    1 ≤ (a2 y).toNat ∧ (a2 y).toNat ≤ 254 := by
  have e := congrFun h y
  have e' : IntOp.cmpi .uge (a2 y) 1#8 &&& IntOp.cmpi .ule (a2 y) 254#8 = 1#1 := e
  obtain ⟨h1, h2⟩ := and_true e'
  have g1 := of_decide_eq_true (ofBool_true h1)
  have g2 := of_decide_eq_true (ofBool_true h2)
  exact ⟨g1, g2⟩

end Cert.Pre
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Precondition
public import Idealize.ShloMosaic.Adequacy
public import Idealize.ShloMosaic.Init

@[expose] public section

noncomputable section

namespace Cert.Proof

open Idealize.ShloMosaic Idealize.SL.Sem Cert.Kernel

open Idealize.ShloMosaic.TcCoe

/-- The value claim: both runs leave the kernel's arrays. -/
theorem algebraic : algebraic_KernelIdeal_ReferenceIdeal_pre_encoded (hKernelIdeal := Cert.KernelIdeal.Gen.facts)
    (hReferenceIdeal := Cert.ReferenceIdeal.Gen.facts) (hPre_encoded := Cert.Pre.facts) := by
  intro m g m' g' hpre hag
  refine ⟨fun c => Out.Product (Out.X m c) (Out.W m c) (Out.S m c) (Out.R m c), fun c => Out.Codes (Out.X m c),
    fun c => Out.Scales (Out.X m c), ?_, ?_⟩
  · refine (θ_run _ _ _).mono ?_ (Cert.KernelIdeal.Value.run_blocks (F := Ideal) m g)
    intro r h c
    obtain ⟨h0, h1, h2, k⟩ := h c
    exact ⟨h0.trans (Out.final4 m c), h1.trans (Out.final5 m c), h2.trans (Out.final6 m c), k⟩
  · refine (θ_run _ _ _).mono ?_ (Cert.RefRun.run_blocks (F := Ideal) m' g')
    intro r h c
    obtain ⟨h0, h1, h2, k⟩ := h c
    obtain ⟨a0, a1, a2, a3⟩ := hag c
    have eX : RefOut.X m' c = Out.X m c := by
      rw [RefOut.X_eq, Out.X_eq]
      exact congrArg (fun a => shapeCast Cert.KernelIdeal.S6144x2048 a Cert.KernelIdeal.Gen.facts.shapeCasts_S1x6144x2048_S6144x2048) a0
    have eR : RefOut.R m' c = Out.R m c := by
      rw [RefOut.R_eq, Out.R_eq]
      exact congrArg (fun a => shapeCast Cert.KernelIdeal.S6144x2304 a Cert.KernelIdeal.Gen.facts.shapeCasts_S1x6144x2304_S6144x2304) a3
    have eW : RefOut.W m' c = Out.W m c := ((RefOut.W_eq m' c).trans a1).trans (Out.W_eq m c).symm
    have eS : RefOut.S m' c = Out.S m c := ((RefOut.S_eq m' c).trans a2).trans (Out.S_eq m c).symm
    have hX : ∀ r k, Mx.abs (Out.X m c (ix2 r k)) ≤ (((255 : ℝ) * 2 ^ (120 : ℤ) : ℝ) : EReal) ∨ Mx.abs (Out.X m c (ix2 r k)) = ⊤ := by
      intro r k
      rw [Out.X_eq]
      exact Pre.input _ _ _ _ (hpre c).1 _
    have hS : ∀ b n, 1 ≤ (Out.S m c (ix2 b n)).toNat ∧ (Out.S m c (ix2 b n)).toNat ≤ 254 := by
      intro b n
      rw [Out.S_eq]
      exact Pre.scale _ _ _ _ (hpre c).2 _
    refine ⟨h0.trans ((RefOut.final4 m' c).trans ?_), h1.trans ((RefOut.final5 m' c).trans ?_), h2.trans ((RefOut.final6 m' c).trans ?_), k⟩
    · rw [eX, eR, eW, eS]
      exact Results.product _ hX _ _ _ hS
    · rw [eX]
      exact Results.codes _ hX
    · rw [eX]
      exact Results.scales _ hX

theorem claim : Cert.Claim := ⟨Cert.Kernel.Gen.facts, Cert.KernelIdeal.Gen.facts, Cert.ReferenceIdeal.Gen.facts, Cert.Pre.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
